-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x3072x4096 : Shape := ⟨3, ![2, 3072, 4096]⟩
abbrev S2x3072x32 : Shape := ⟨3, ![2, 3072, 32]⟩
abbrev S7168x4096 : Shape := ⟨2, ![7168, 4096]⟩
abbrev S56x32 : Shape := ⟨2, ![56, 32]⟩
abbrev S6144x4096 : Shape := ⟨2, ![6144, 4096]⟩
abbrev S6144x32 : Shape := ⟨2, ![6144, 32]⟩
abbrev S6144x7168 : Shape := ⟨2, ![6144, 7168]⟩
abbrev S6144x56 : Shape := ⟨2, ![6144, 56]⟩
abbrev S1024x4096 : Shape := ⟨2, ![1024, 4096]⟩
abbrev S1024x32 : Shape := ⟨2, ![1024, 32]⟩
abbrev S256x4096 : Shape := ⟨2, ![256, 4096]⟩
abbrev S1024x256 : Shape := ⟨2, ![1024, 256]⟩
abbrev S1024x56 : Shape := ⟨2, ![1024, 56]⟩
abbrev S512x4096 : Shape := ⟨2, ![512, 4096]⟩
abbrev S1024x1 : Shape := ⟨2, ![1024, 1]⟩
abbrev S1024x128 : Shape := ⟨2, ![1024, 128]⟩
abbrev S1x1 : Shape := ⟨2, ![1, 1]⟩
abbrev S128x128 : Shape := ⟨2, ![128, 128]⟩
abbrev S1024x512 : Shape := ⟨2, ![1024, 512]⟩
abbrev S1024 : Shape := ⟨1, ![1024]⟩

abbrev nBuf : Space → Nat
  | .hbm => 10
  | .vmem => 14
  | .smem => 2
  | _ => 0

abbrev bufTy : (tb : Table) → Fin (tcTables nBuf tb) → BufTy
  | .hbm, ⟨0, _⟩ => ⟨S2x3072x4096, .fp8e4m3⟩
  | .hbm, ⟨1, _⟩ => ⟨S2x3072x32, .f32⟩
  | .hbm, ⟨2, _⟩ => ⟨S7168x4096, .fp8e4m3⟩
  | .hbm, ⟨3, _⟩ => ⟨S56x32, .f32⟩
  | .hbm, ⟨4, _⟩ => ⟨S7168x4096, .fp8e4m3⟩
  | .hbm, ⟨5, _⟩ => ⟨S56x32, .f32⟩
  | .hbm, ⟨6, _⟩ => ⟨S6144x4096, .fp8e4m3⟩
  | .hbm, ⟨7, _⟩ => ⟨S6144x32, .f32⟩
  | .hbm, ⟨8, _⟩ => ⟨S6144x7168, .fp8e4m3⟩
  | .hbm, ⟨9, _⟩ => ⟨S6144x56, .f32⟩
  | .local _ .vmem, ⟨0, _⟩ => ⟨S1024x4096, .fp8e4m3⟩
  | .local _ .vmem, ⟨1, _⟩ => ⟨S1024x4096, .fp8e4m3⟩
  | .local _ .vmem, ⟨2, _⟩ => ⟨S1024x32, .f32⟩
  | .local _ .vmem, ⟨3, _⟩ => ⟨S1024x32, .f32⟩
  | .local _ .vmem, ⟨4, _⟩ => ⟨S256x4096, .fp8e4m3⟩
  | .local _ .vmem, ⟨5, _⟩ => ⟨S256x4096, .fp8e4m3⟩
  | .local _ .vmem, ⟨6, _⟩ => ⟨S256x4096, .fp8e4m3⟩
  | .local _ .vmem, ⟨7, _⟩ => ⟨S256x4096, .fp8e4m3⟩
  | .local _ .vmem, ⟨8, _⟩ => ⟨S1024x256, .fp8e4m3⟩
  | .local _ .vmem, ⟨9, _⟩ => ⟨S1024x256, .fp8e4m3⟩
  | .local _ .vmem, ⟨10, _⟩ => ⟨S1024x56, .f32⟩
  | .local _ .vmem, ⟨11, _⟩ => ⟨S1024x56, .f32⟩
  | .local _ .vmem, ⟨12, _⟩ => ⟨S1024x4096, .bf16⟩
  | .local _ .vmem, ⟨13, _⟩ => ⟨S512x4096, .bf16⟩
  | .local _ .smem, ⟨0, _⟩ => ⟨S56x32, .f32⟩
  | .local _ .smem, ⟨1, _⟩ => ⟨S56x32, .f32⟩
  | _, _ => ⟨S2x3072x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_stg4_0 : Ref sig .tc := ⟨.smem, 0, rfl⟩
abbrev cc0_stg5_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![6, 28], ![false, false]⟩

def k0_off1 (i : grid0.Coords) (c0_i32_1 : BitVec 32) : Fin 2 → Nat :=
  let arg1 : BitVec 32 := BitVec.ofNat 32 (i 1).val
  let c2_i32 : BitVec 32 := 2#32
  let v3 : BitVec 32 := Scalar.muli arg1 c2_i32
  let v4 : BitVec 32 := Scalar.addi v3 c0_i32_1
  let v5 : Index := Scalar.indexCast v4
  let c0 : Index := 0#32
  ![v5.toNat, 0]
def k0_off2 (i : grid0.Coords) (c0_i32_7 : BitVec 32) : Fin 2 → Nat :=
  let arg1 : BitVec 32 := BitVec.ofNat 32 (i 1).val
  let c2_i32_6 : BitVec 32 := 2#32
  let v15 : BitVec 32 := Scalar.muli arg1 c2_i32_6
  let v16 : BitVec 32 := Scalar.addi v15 c0_i32_7
  let v17 : Index := Scalar.indexCast v16
  let c1 : Index := 1#32
  ![v17.toNat, 1]
def k0_off3 (i : grid0.Coords) (c0_i32_12 : BitVec 32) : Fin 2 → Nat :=
  let arg1 : BitVec 32 := BitVec.ofNat 32 (i 1).val
  let c2_i32_11 : BitVec 32 := 2#32
  let v27 : BitVec 32 := Scalar.muli arg1 c2_i32_11
  let v28 : BitVec 32 := Scalar.addi v27 c0_i32_12
  let v29 : Index := Scalar.indexCast v28
  let c2 : Index := 2#32
  ![v29.toNat, 2]
def k0_off4 (i : grid0.Coords) (c0_i32_17 : BitVec 32) : Fin 2 → Nat :=
  let arg1 : BitVec 32 := BitVec.ofNat 32 (i 1).val
  let c2_i32_16 : BitVec 32 := 2#32
  let v39 : BitVec 32 := Scalar.muli arg1 c2_i32_16
  let v40 : BitVec 32 := Scalar.addi v39 c0_i32_17
  let v41 : Index := Scalar.indexCast v40
  let c3 : Index := 3#32
  ![v41.toNat, 3]
def k0_off5 (i : grid0.Coords) (c0_i32_22 : BitVec 32) : Fin 2 → Nat :=
  let arg1 : BitVec 32 := BitVec.ofNat 32 (i 1).val
  let c2_i32_21 : BitVec 32 := 2#32
  let v51 : BitVec 32 := Scalar.muli arg1 c2_i32_21
  let v52 : BitVec 32 := Scalar.addi v51 c0_i32_22
  let v53 : Index := Scalar.indexCast v52
  let c4 : Index := 4#32
  ![v53.toNat, 4]
def k0_off6 (i : grid0.Coords) (c0_i32_27 : BitVec 32) : Fin 2 → Nat :=
  let arg1 : BitVec 32 := BitVec.ofNat 32 (i 1).val
  let c2_i32_26 : BitVec 32 := 2#32
  let v63 : BitVec 32 := Scalar.muli arg1 c2_i32_26
  let v64 : BitVec 32 := Scalar.addi v63 c0_i32_27
  let v65 : Index := Scalar.indexCast v64
  let c5 : Index := 5#32
  ![v65.toNat, 5]
def k0_off7 (i : grid0.Coords) (c0_i32_32 : BitVec 32) : Fin 2 → Nat :=
  let arg1 : BitVec 32 := BitVec.ofNat 32 (i 1).val
  let c2_i32_31 : BitVec 32 := 2#32
  let v75 : BitVec 32 := Scalar.muli arg1 c2_i32_31
  let v76 : BitVec 32 := Scalar.addi v75 c0_i32_32
  let v77 : Index := Scalar.indexCast v76
  let c6 : Index := 6#32
  ![v77.toNat, 6]
def k0_off8 (i : grid0.Coords) (c0_i32_37 : BitVec 32) : Fin 2 → Nat :=
  let arg1 : BitVec 32 := BitVec.ofNat 32 (i 1).val
  let c2_i32_36 : BitVec 32 := 2#32
  let v87 : BitVec 32 := Scalar.muli arg1 c2_i32_36
  let v88 : BitVec 32 := Scalar.addi v87 c0_i32_37
  let v89 : Index := Scalar.indexCast v88
  let c7 : Index := 7#32
  ![v89.toNat, 7]
def k0_off9 (i : grid0.Coords) (c0_i32_42 : BitVec 32) : Fin 2 → Nat :=
  let arg1 : BitVec 32 := BitVec.ofNat 32 (i 1).val
  let c2_i32_41 : BitVec 32 := 2#32
  let v99 : BitVec 32 := Scalar.muli arg1 c2_i32_41
  let v100 : BitVec 32 := Scalar.addi v99 c0_i32_42
  let v101 : Index := Scalar.indexCast v100
  let c8 : Index := 8#32
  ![v101.toNat, 8]
def k0_off10 (i : grid0.Coords) (c0_i32_47 : BitVec 32) : Fin 2 → Nat :=
  let arg1 : BitVec 32 := BitVec.ofNat 32 (i 1).val
  let c2_i32_46 : BitVec 32 := 2#32
  let v111 : BitVec 32 := Scalar.muli arg1 c2_i32_46
  let v112 : BitVec 32 := Scalar.addi v111 c0_i32_47
  let v113 : Index := Scalar.indexCast v112
  let c9 : Index := 9#32
  ![v113.toNat, 9]
def k0_off11 (i : grid0.Coords) (c0_i32_52 : BitVec 32) : Fin 2 → Nat :=
  let arg1 : BitVec 32 := BitVec.ofNat 32 (i 1).val
  let c2_i32_51 : BitVec 32 := 2#32
  let v123 : BitVec 32 := Scalar.muli arg1 c2_i32_51
  let v124 : BitVec 32 := Scalar.addi v123 c0_i32_52
  let v125 : Index := Scalar.indexCast v124
  let c10 : Index := 10#32
  ![v125.toNat, 10]
def k0_off12 (i : grid0.Coords) (c0_i32_57 : BitVec 32) : Fin 2 → Nat :=
  let arg1 : BitVec 32 := BitVec.ofNat 32 (i 1).val
  let c2_i32_56 : BitVec 32 := 2#32
  let v135 : BitVec 32 := Scalar.muli arg1 c2_i32_56
  let v136 : BitVec 32 := Scalar.addi v135 c0_i32_57
  let v137 : Index := Scalar.indexCast v136
  let c11 : Index := 11#32
  ![v137.toNat, 11]
def k0_off13 (i : grid0.Coords) (c0_i32_62 : BitVec 32) : Fin 2 → Nat :=
  let arg1 : BitVec 32 := BitVec.ofNat 32 (i 1).val
  let c2_i32_61 : BitVec 32 := 2#32
  let v147 : BitVec 32 := Scalar.muli arg1 c2_i32_61
  let v148 : BitVec 32 := Scalar.addi v147 c0_i32_62
  let v149 : Index := Scalar.indexCast v148
  let c12 : Index := 12#32
  ![v149.toNat, 12]
def k0_off14 (i : grid0.Coords) (c0_i32_67 : BitVec 32) : Fin 2 → Nat :=
  let arg1 : BitVec 32 := BitVec.ofNat 32 (i 1).val
  let c2_i32_66 : BitVec 32 := 2#32
  let v159 : BitVec 32 := Scalar.muli arg1 c2_i32_66
  let v160 : BitVec 32 := Scalar.addi v159 c0_i32_67
  let v161 : Index := Scalar.indexCast v160
  let c13 : Index := 13#32
  ![v161.toNat, 13]
def k0_off15 (i : grid0.Coords) (c0_i32_72 : BitVec 32) : Fin 2 → Nat :=
  let arg1 : BitVec 32 := BitVec.ofNat 32 (i 1).val
  let c2_i32_71 : BitVec 32 := 2#32
  let v171 : BitVec 32 := Scalar.muli arg1 c2_i32_71
  let v172 : BitVec 32 := Scalar.addi v171 c0_i32_72
  let v173 : Index := Scalar.indexCast v172
  let c14 : Index := 14#32
  ![v173.toNat, 14]
def k0_off16 (i : grid0.Coords) (c0_i32_77 : BitVec 32) : Fin 2 → Nat :=
  let arg1 : BitVec 32 := BitVec.ofNat 32 (i 1).val
  let c2_i32_76 : BitVec 32 := 2#32
  let v183 : BitVec 32 := Scalar.muli arg1 c2_i32_76
  let v184 : BitVec 32 := Scalar.addi v183 c0_i32_77
  let v185 : Index := Scalar.indexCast v184
  let c15 : Index := 15#32
  ![v185.toNat, 15]
def k0_off17 (i : grid0.Coords) (c0_i32_82 : BitVec 32) : Fin 2 → Nat :=
  let arg1 : BitVec 32 := BitVec.ofNat 32 (i 1).val
  let c2_i32_81 : BitVec 32 := 2#32
  let v195 : BitVec 32 := Scalar.muli arg1 c2_i32_81
  let v196 : BitVec 32 := Scalar.addi v195 c0_i32_82
  let v197 : Index := Scalar.indexCast v196
  let c16 : Index := 16#32
  ![v197.toNat, 16]
def k0_off18 (i : grid0.Coords) (c0_i32_87 : BitVec 32) : Fin 2 → Nat :=
  let arg1 : BitVec 32 := BitVec.ofNat 32 (i 1).val
  let c2_i32_86 : BitVec 32 := 2#32
  let v207 : BitVec 32 := Scalar.muli arg1 c2_i32_86
  let v208 : BitVec 32 := Scalar.addi v207 c0_i32_87
  let v209 : Index := Scalar.indexCast v208
  let c17 : Index := 17#32
  ![v209.toNat, 17]
def k0_off19 (i : grid0.Coords) (c0_i32_92 : BitVec 32) : Fin 2 → Nat :=
  let arg1 : BitVec 32 := BitVec.ofNat 32 (i 1).val
  let c2_i32_91 : BitVec 32 := 2#32
  let v219 : BitVec 32 := Scalar.muli arg1 c2_i32_91
  let v220 : BitVec 32 := Scalar.addi v219 c0_i32_92
  let v221 : Index := Scalar.indexCast v220
  let c18 : Index := 18#32
  ![v221.toNat, 18]
def k0_off20 (i : grid0.Coords) (c0_i32_97 : BitVec 32) : Fin 2 → Nat :=
  let arg1 : BitVec 32 := BitVec.ofNat 32 (i 1).val
  let c2_i32_96 : BitVec 32 := 2#32
  let v231 : BitVec 32 := Scalar.muli arg1 c2_i32_96
  let v232 : BitVec 32 := Scalar.addi v231 c0_i32_97
  let v233 : Index := Scalar.indexCast v232
  let c19 : Index := 19#32
  ![v233.toNat, 19]
def k0_off21 (i : grid0.Coords) (c0_i32_102 : BitVec 32) : Fin 2 → Nat :=
  let arg1 : BitVec 32 := BitVec.ofNat 32 (i 1).val
  let c2_i32_101 : BitVec 32 := 2#32
  let v243 : BitVec 32 := Scalar.muli arg1 c2_i32_101
  let v244 : BitVec 32 := Scalar.addi v243 c0_i32_102
  let v245 : Index := Scalar.indexCast v244
  let c20 : Index := 20#32
  ![v245.toNat, 20]
def k0_off22 (i : grid0.Coords) (c0_i32_107 : BitVec 32) : Fin 2 → Nat :=
  let arg1 : BitVec 32 := BitVec.ofNat 32 (i 1).val
  let c2_i32_106 : BitVec 32 := 2#32
  let v255 : BitVec 32 := Scalar.muli arg1 c2_i32_106
  let v256 : BitVec 32 := Scalar.addi v255 c0_i32_107
  let v257 : Index := Scalar.indexCast v256
  let c21 : Index := 21#32
  ![v257.toNat, 21]
def k0_off23 (i : grid0.Coords) (c0_i32_112 : BitVec 32) : Fin 2 → Nat :=
  let arg1 : BitVec 32 := BitVec.ofNat 32 (i 1).val
  let c2_i32_111 : BitVec 32 := 2#32
  let v267 : BitVec 32 := Scalar.muli arg1 c2_i32_111
  let v268 : BitVec 32 := Scalar.addi v267 c0_i32_112
  let v269 : Index := Scalar.indexCast v268
  let c22 : Index := 22#32
  ![v269.toNat, 22]
def k0_off24 (i : grid0.Coords) (c0_i32_117 : BitVec 32) : Fin 2 → Nat :=
  let arg1 : BitVec 32 := BitVec.ofNat 32 (i 1).val
  let c2_i32_116 : BitVec 32 := 2#32
  let v279 : BitVec 32 := Scalar.muli arg1 c2_i32_116
  let v280 : BitVec 32 := Scalar.addi v279 c0_i32_117
  let v281 : Index := Scalar.indexCast v280
  let c23 : Index := 23#32
  ![v281.toNat, 23]
def k0_off25 (i : grid0.Coords) (c0_i32_122 : BitVec 32) : Fin 2 → Nat :=
  let arg1 : BitVec 32 := BitVec.ofNat 32 (i 1).val
  let c2_i32_121 : BitVec 32 := 2#32
  let v291 : BitVec 32 := Scalar.muli arg1 c2_i32_121
  let v292 : BitVec 32 := Scalar.addi v291 c0_i32_122
  let v293 : Index := Scalar.indexCast v292
  let c24 : Index := 24#32
  ![v293.toNat, 24]
def k0_off26 (i : grid0.Coords) (c0_i32_127 : BitVec 32) : Fin 2 → Nat :=
  let arg1 : BitVec 32 := BitVec.ofNat 32 (i 1).val
  let c2_i32_126 : BitVec 32 := 2#32
  let v303 : BitVec 32 := Scalar.muli arg1 c2_i32_126
  let v304 : BitVec 32 := Scalar.addi v303 c0_i32_127
  let v305 : Index := Scalar.indexCast v304
  let c25 : Index := 25#32
  ![v305.toNat, 25]
def k0_off27 (i : grid0.Coords) (c0_i32_132 : BitVec 32) : Fin 2 → Nat :=
  let arg1 : BitVec 32 := BitVec.ofNat 32 (i 1).val
  let c2_i32_131 : BitVec 32 := 2#32
  let v315 : BitVec 32 := Scalar.muli arg1 c2_i32_131
  let v316 : BitVec 32 := Scalar.addi v315 c0_i32_132
  let v317 : Index := Scalar.indexCast v316
  let c26 : Index := 26#32
  ![v317.toNat, 26]
def k0_off28 (i : grid0.Coords) (c0_i32_137 : BitVec 32) : Fin 2 → Nat :=
  let arg1 : BitVec 32 := BitVec.ofNat 32 (i 1).val
  let c2_i32_136 : BitVec 32 := 2#32
  let v327 : BitVec 32 := Scalar.muli arg1 c2_i32_136
  let v328 : BitVec 32 := Scalar.addi v327 c0_i32_137
  let v329 : Index := Scalar.indexCast v328
  let c27 : Index := 27#32
  ![v329.toNat, 27]
def k0_off29 (i : grid0.Coords) (c0_i32_142 : BitVec 32) : Fin 2 → Nat :=
  let arg1 : BitVec 32 := BitVec.ofNat 32 (i 1).val
  let c2_i32_141 : BitVec 32 := 2#32
  let v339 : BitVec 32 := Scalar.muli arg1 c2_i32_141
  let v340 : BitVec 32 := Scalar.addi v339 c0_i32_142
  let v341 : Index := Scalar.indexCast v340
  let c28 : Index := 28#32
  ![v341.toNat, 28]
def k0_off30 (i : grid0.Coords) (c0_i32_147 : BitVec 32) : Fin 2 → Nat :=
  let arg1 : BitVec 32 := BitVec.ofNat 32 (i 1).val
  let c2_i32_146 : BitVec 32 := 2#32
  let v351 : BitVec 32 := Scalar.muli arg1 c2_i32_146
  let v352 : BitVec 32 := Scalar.addi v351 c0_i32_147
  let v353 : Index := Scalar.indexCast v352
  let c29 : Index := 29#32
  ![v353.toNat, 29]
def k0_off31 (i : grid0.Coords) (c0_i32_152 : BitVec 32) : Fin 2 → Nat :=
  let arg1 : BitVec 32 := BitVec.ofNat 32 (i 1).val
  let c2_i32_151 : BitVec 32 := 2#32
  let v363 : BitVec 32 := Scalar.muli arg1 c2_i32_151
  let v364 : BitVec 32 := Scalar.addi v363 c0_i32_152
  let v365 : Index := Scalar.indexCast v364
  let c30 : Index := 30#32
  ![v365.toNat, 30]
def k0_off32 (i : grid0.Coords) (c0_i32_157 : BitVec 32) : Fin 2 → Nat :=
  let arg1 : BitVec 32 := BitVec.ofNat 32 (i 1).val
  let c2_i32_156 : BitVec 32 := 2#32
  let v375 : BitVec 32 := Scalar.muli arg1 c2_i32_156
  let v376 : BitVec 32 := Scalar.addi v375 c0_i32_157
  let v377 : Index := Scalar.indexCast v376
  let c31 : Index := 31#32
  ![v377.toNat, 31]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4096 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x4096 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x4096 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .smem S56x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .smem S56x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x56 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S2x3072x4096 : Shape := ⟨3, ![2, 3072, 4096]⟩
abbrev S2x3072x32 : Shape := ⟨3, ![2, 3072, 32]⟩
abbrev S7168x4096 : Shape := ⟨2, ![7168, 4096]⟩
abbrev S56x32 : Shape := ⟨2, ![56, 32]⟩
abbrev S6144x4096 : Shape := ⟨2, ![6144, 4096]⟩
abbrev S6144x32 : Shape := ⟨2, ![6144, 32]⟩
abbrev S6144x7168 : Shape := ⟨2, ![6144, 7168]⟩
abbrev S6144x56 : Shape := ⟨2, ![6144, 56]⟩
abbrev S6144x32x128 : Shape := ⟨3, ![6144, 32, 128]⟩
abbrev S6144x32x1 : Shape := ⟨3, ![6144, 32, 1]⟩
abbrev S56x128x32x128 : Shape := ⟨4, ![56, 128, 32, 128]⟩
abbrev S56x1x32x1 : Shape := ⟨4, ![56, 1, 32, 1]⟩
abbrev S6144x56x128 : Shape := ⟨3, ![6144, 56, 128]⟩
abbrev S6144x56x1 : Shape := ⟨3, ![6144, 56, 1]⟩

abbrev nBuf : Space → Nat
  | .hbm => 10
  | .vmem => 8
  | .smem => 0
  | _ => 0

abbrev bufTy : (tb : Table) → Fin (tcTables nBuf tb) → BufTy
  | .hbm, ⟨0, _⟩ => ⟨S2x3072x4096, .fp8e4m3⟩
  | .hbm, ⟨1, _⟩ => ⟨S2x3072x32, .f32⟩
  | .hbm, ⟨2, _⟩ => ⟨S7168x4096, .fp8e4m3⟩
  | .hbm, ⟨3, _⟩ => ⟨S56x32, .f32⟩
  | .hbm, ⟨4, _⟩ => ⟨S7168x4096, .fp8e4m3⟩
  | .hbm, ⟨5, _⟩ => ⟨S56x32, .f32⟩
  | .hbm, ⟨6, _⟩ => ⟨S6144x4096, .fp8e4m3⟩
  | .hbm, ⟨7, _⟩ => ⟨S6144x32, .f32⟩
  | .hbm, ⟨8, _⟩ => ⟨S6144x7168, .fp8e4m3⟩
  | .hbm, ⟨9, _⟩ => ⟨S6144x56, .f32⟩
  | .local _ .vmem, ⟨0, _⟩ => ⟨S6144x4096, .fp8e4m3⟩
  | .local _ .vmem, ⟨1, _⟩ => ⟨S6144x32, .f32⟩
  | .local _ .vmem, ⟨2, _⟩ => ⟨S7168x4096, .fp8e4m3⟩
  | .local _ .vmem, ⟨3, _⟩ => ⟨S56x32, .f32⟩
  | .local _ .vmem, ⟨4, _⟩ => ⟨S7168x4096, .fp8e4m3⟩
  | .local _ .vmem, ⟨5, _⟩ => ⟨S56x32, .f32⟩
  | .local _ .vmem, ⟨6, _⟩ => ⟨S6144x7168, .fp8e4m3⟩
  | .local _ .vmem, ⟨7, _⟩ => ⟨S6144x56, .f32⟩
  | _, _ => ⟨S2x3072x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S6144x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7168x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S56x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7168x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S56x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x7168 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6144x56 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.K.Runs.lean ====
/-
  What the runs of the kernel's body at the ideal instance are stated over: the one branch condition in closed form over the
  grid, each window's current staging buffer, the two scratch buffers, and the invariant of the launch with the scratch
  buffers as memrefs owned at some contents.
-/
module

public import proofs.«01_k».proof.Proof.Gen.Kernel.Frame
public import proofs.«01_k».proof.Proof.Gen.Kernel.Skeleton

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 28) — by arithmetic of the point. -/
theorem hcond0_0 : ∀ t : Fin cfg0.N, cond0_0 (grid0.coords t) ↔ t.val % 28 = 0 :=
  (fun t => by
    have ht : t.val < 168 := Nat.lt_of_lt_of_eq t.isLt N_0
    have e0 : (grid0.coords t 0).val = t.val / 28 % 6 := Pipeline.Grid.coords_val t 0 (by decide) rfl
    have e1 : (grid0.coords t 1).val = t.val / 1 % 28 := Pipeline.Grid.coords_val t 1 (by decide) rfl
    simp only [cond0_0, e0, e1]
    word_cmp
   : ∀ t : Fin grid0.N, cond0_0 (grid0.coords t) ↔ t.val % 28 = 0)

/-! ## The kernel body on any staging memrefs: a subtype the run finds -/

/-- Each window's current staging memref at point `t`, spelled as the pipeline passes it (`bodyAt0`), and its wholeness. -/
abbrev ms0_0 (t : Fin cfg0.N) : Memref sig .tc .vmem S1024x4096 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x4096 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x4096 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .smem S56x32 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .smem S56x32 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x256 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x56 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S1024x4096 .bf16 := Memref.whole cc0_scratch0
abbrev scM0_1 : Memref sig .tc .vmem S512x4096 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Run

end
-- ==== Proof.K.Block.lean ====
/-
  What one block of the kernel computes: the activations and the weights of a block widened by their scales, as one array each,
  and the block of codes and the two columns of scales made from their product. With it, for each store of the widening, that it
  stores the piece of that array its place names.
-/
module

public import proofs.«01_k».proof.Proof.K.Runs
public import Idealize.ShloMosaic.Lib.Pipeline.ValueKit
public import Idealize.ShloMosaic.Lib.Pointwise

@[expose] public section

set_option maxRecDepth 16384

noncomputable section

namespace Cert.Kernel.Run

open Cert.Kernel.Gen
open Idealize.ShloMosaic Idealize.ShloMosaic.TcCoe Idealize.ShloMosaic.Tactic

variable {F : FTy → Type} [FloatOps F]

/-- The activations of one block, each times its group's scale. -/
def xbOf (x0 : Vec F S1024x4096 .fp8e4m3) (x1 : Vec F S1024x32 .f32) : Vec F S1024x4096 .bf16 := fun y =>
  FloatOps.mulf (FloatOps.extf .bf16 bitsLt_fp8e4m3_bf16 (x0 y))
    (FloatOps.truncf .bf16 bitsLt_bf16_f32 (x1 (ix2 (n0 := 1024) (n1 := 32) ⟨(y 0).val, (y 0).isLt⟩ ⟨(y 1).val / 128, by have : (y 1).val < 4096 := (y 1).isLt; omega⟩)))

/-- One weight times its square's scale. -/
def wAt (x : Vec F S256x4096 .fp8e4m3) (s : Vec F S56x32 .f32) (j : Fin 28) (r : Fin 256) (k : Fin 4096) : F .bf16 :=
  FloatOps.mulf (FloatOps.extf .bf16 bitsLt_fp8e4m3_bf16 (x (ix2 (n0 := 256) (n1 := 4096) r k)))
    (FloatOps.truncf .bf16 bitsLt_bf16_f32 (s (ix2 (n0 := 56) (n1 := 32) ⟨2 * j.val + r.val / 128, by omega⟩ ⟨k.val / 128, by omega⟩)))

/-- The weights of one block: the gate's 256 rows, then the up projection's. -/
def wbOf (j : Fin 28) (x2 x3 : Vec F S256x4096 .fp8e4m3) (x4 x5 : Vec F S56x32 .f32) : Vec F S512x4096 .bf16 := fun y =>
  if h : (y 0).val < 256 then wAt x2 x4 j ⟨(y 0).val, h⟩ ⟨(y 1).val, (y 1).isLt⟩
  else wAt x3 x5 j ⟨(y 0).val - 256, by have : (y 0).val < 512 := (y 0).isLt; omega⟩ ⟨(y 1).val, (y 1).isLt⟩

/-- A store of the widened activations: 128 columns. -/
theorem xpiece {arg2 : Memref sig .tc .vmem S1024x4096 .fp8e4m3} (harg2 : arg2.IsWhole) {arg3 : Memref sig .tc .vmem S1024x32 .f32} (harg3 : arg3.IsWhole)
    (x0 : Vec F S1024x4096 .fp8e4m3) (x1 : Vec F S1024x32 .f32) (k o : ℕ)
    (h1 : ∀ a, (![0, k] : Fin 2 → ℕ) a + S1024x1.size a ≤ S1024x32.size a)
    (h2 : ∀ a, (![0, o] : Fin 2 → ℕ) a + S1024x128.size a ≤ S1024x4096.size a) (ho : o = 128 * k)
    (x : S1024x128.Idx) (z : S1024x4096.Idx) (hz : z = (Rect.unit (s := S1024x4096) ![0, o] S1024x128.size h2).emb x) :
    k0_pay2 (View.readAt (Elt F) arg3.view (Rect.unit (s := S1024x32) ![0, k] S1024x1.size h1).toLoadRect (harg3.unread x1))
      (View.readAt (Elt F) arg2.view (Rect.unit (s := S1024x4096) ![0, o] S1024x128.size h2).toLoadRect (harg2.unread x0)) x
      = xbOf x0 x1 z := by
  have hx0 : (x 0).val < 1024 := (x 0).isLt
  have hx1 : (x 1).val < 128 := (x 1).isLt
  subst hz
  subst ho
  unfold k0_pay2 xbOf
  simp only [shapeCast_self]
  show FloatOps.mulf (FloatOps.extf .bf16 _ (View.readAt (Elt F) arg2.view (Rect.unit (s := S1024x4096) ![0, 128 * k] S1024x128.size h2).toLoadRect _ x)) (broadcastTo S1024x128 _ _ x) = _
  rw [broadcastTo_apply _ _ x (ix2 (n0 := 1024) (n1 := 1) ⟨(x 0).val, hx0⟩ ⟨0, by omega⟩)]
  · show FloatOps.mulf (FloatOps.extf .bf16 _ (View.readAt (Elt F) arg2.view (Rect.unit (s := S1024x4096) ![0, 128 * k] S1024x128.size h2).toLoadRect _ x)) (FloatOps.truncf .bf16 _ (View.readAt (Elt F) arg3.view (Rect.unit (s := S1024x32) ![0, k] S1024x1.size h1).toLoadRect _ _)) = _
    rw [View.readAt_apply, View.readAt_apply, harg2.read_unread, harg3.read_unread]
    congr 2
    congr 1
    funext a
    apply Fin.ext
    match a with
    | ⟨0, _⟩ => show 0 + 1 * (x 0).val = 0 + 1 * (x 0).val; rfl
    | ⟨1, _⟩ => show k + 1 * 0 = (128 * k + 1 * (x 1).val) / 128; omega
  · intro a
    match a with
    | ⟨0, _⟩ => show (x 0).val = _ ; simp
    | ⟨1, _⟩ => show 0 = _; simp

/-- Where the scale of a square of weights lies: row `b` of the two this point uses, column `q`. -/
abbrev offG (i : grid0.Coords) (b : BitVec 32) (q : ℕ) : Fin 2 → ℕ :=
  ![(Scalar.indexCast (Scalar.addi (Scalar.muli (BitVec.ofNat 32 (i 1).val) 2#32) b) : Index).toNat, q]

theorem offG_eq (i : grid0.Coords) (b q : ℕ) (hb : b < 2) :
    offG i (BitVec.ofNat 32 b) q = ![2 * (i 1).val + b, q] := by
  have hi : (i 1).val < 28 := (i 1).isLt
  have e0 : (Scalar.indexCast (Scalar.addi (Scalar.muli (BitVec.ofNat 32 (i 1).val) 2#32) (BitVec.ofNat 32 b)) : Index).toNat = 2 * (i 1).val + b := by
    show (BitVec.ofNat 32 (i 1).val * 2#32 + BitVec.ofNat 32 b).toNat = _
    simp [BitVec.toNat_add, BitVec.toNat_mul]
    omega
  unfold offG
  rw [e0]

/-- A store of widened weights, a square of 128 rows and columns. -/
theorem wpiece {arg : Memref sig .tc .vmem S256x4096 .fp8e4m3} (harg : arg.IsWhole) {args : Memref sig .tc .smem S56x32 .f32} (hargs : args.IsWhole)
    (x : Vec F S256x4096 .fp8e4m3) (s : Vec F S56x32 .f32) (i : grid0.Coords) (b q o0 o1 : ℕ) (hb : b < 2) (hq : q < 32)
    (ho0 : o0 = 128 * b) (ho1 : o1 = 128 * q)
    (h1 : ∀ a, offG i (BitVec.ofNat 32 b) q a + S1x1.size a ≤ S56x32.size a)
    (h2 : ∀ a, (![o0, o1] : Fin 2 → ℕ) a + S128x128.size a ≤ S256x4096.size a)
    (hp : 0 < S1x1.numel) (y : S128x128.Idx) :
    k0_pay40 (View.readAt (Elt F) args.view (Rect.unit (s := S56x32) (offG i (BitVec.ofNat 32 b) q) S1x1.size h1).toLoadRect (hargs.unread s) (Shape.Idx.first hp))
      (View.readAt (Elt F) arg.view (Rect.unit (s := S256x4096) ![o0, o1] S128x128.size h2).toLoadRect (harg.unread x)) y
      = wAt x s (i 1) ⟨128 * b + (y 0).val, by have : (y 0).val < 128 := (y 0).isLt; omega⟩ ⟨128 * q + (y 1).val, by have : (y 1).val < 128 := (y 1).isLt; omega⟩ := by
  have hy0 : (y 0).val < 128 := (y 0).isLt
  have hy1 : (y 1).val < 128 := (y 1).isLt
  subst ho0 ho1
  unfold k0_pay40 wAt
  simp only [shapeCast_self]
  show FloatOps.mulf (FloatOps.extf .bf16 _ (View.readAt (Elt F) arg.view (Rect.unit (s := S256x4096) ![128 * b, 128 * q] S128x128.size h2).toLoadRect _ y)) (FloatOps.truncf .bf16 _ (View.readAt (Elt F) args.view (Rect.unit (s := S56x32) (offG i (BitVec.ofNat 32 b) q) S1x1.size h1).toLoadRect _ _)) = _
  rw [View.readAt_apply, View.readAt_apply, harg.read_unread, hargs.read_unread]
  congr 2
  · congr 1
    funext a
    apply Fin.ext
    match a with
    | ⟨0, _⟩ => show 128 * b + 1 * (y 0).val = _; simp
    | ⟨1, _⟩ => show 128 * q + 1 * (y 1).val = _; simp
  · congr 1
    funext a
    apply Fin.ext
    show (offG i (BitVec.ofNat 32 b) q) a + 1 * 0 = _
    rw [offG_eq i b q hb]
    match a with
    | ⟨0, _⟩ => show 2 * (i 1).val + b + 1 * 0 = 2 * (i 1).val + (128 * b + (y 0).val) / 128; omega
    | ⟨1, _⟩ => show q + 1 * 0 = (128 * q + (y 1).val) / 128; omega

/-- A store of the gate's widened weights is the piece of `wbOf` at its place. -/
theorem wgate {arg : Memref sig .tc .vmem S256x4096 .fp8e4m3} (harg : arg.IsWhole) {args : Memref sig .tc .smem S56x32 .f32} (hargs : args.IsWhole)
    (x x' : Vec F S256x4096 .fp8e4m3) (s s' : Vec F S56x32 .f32) (i : grid0.Coords) (b q o0 o1 : ℕ)
    (h1 : ∀ a, offG i (BitVec.ofNat 32 b) q a + S1x1.size a ≤ S56x32.size a)
    (h2 : ∀ a, (![o0, o1] : Fin 2 → ℕ) a + S128x128.size a ≤ S256x4096.size a)
    (hp : 0 < S1x1.numel)
    (hb : b < 2) (hq : q < 32) (ho0 : o0 = 128 * b) (ho1 : o1 = 128 * q) (y : S128x128.Idx)
    (z : S512x4096.Idx) (hz0 : (z 0).val = o0 + 1 * (y 0).val) (hz1 : (z 1).val = o1 + 1 * (y 1).val) :
    k0_pay40 (View.readAt (Elt F) args.view (Rect.unit (s := S56x32) (offG i (BitVec.ofNat 32 b) q) S1x1.size h1).toLoadRect (hargs.unread s) (Shape.Idx.first hp))
      (View.readAt (Elt F) arg.view (Rect.unit (s := S256x4096) ![o0, o1] S128x128.size h2).toLoadRect (harg.unread x)) y
      = wbOf (i 1) x x' s s' z := by
  rw [wpiece harg hargs x s i b q o0 o1 hb hq ho0 ho1 h1 h2 hp y]
  have hy0 : (y 0).val < 128 := (y 0).isLt
  have e0 : (z 0).val = 128 * b + (y 0).val := by omega
  have e1 : (z 1).val = 128 * q + (y 1).val := by omega
  unfold wbOf
  rw [dif_pos (by rw [e0]; omega)]
  congr 1 <;> apply Fin.ext
  · exact e0.symm
  · exact e1.symm

/-- A store of the up projection's widened weights is the piece of `wbOf` at its place. -/
theorem wup {arg : Memref sig .tc .vmem S256x4096 .fp8e4m3} (harg : arg.IsWhole) {args : Memref sig .tc .smem S56x32 .f32} (hargs : args.IsWhole)
    (x x' : Vec F S256x4096 .fp8e4m3) (s s' : Vec F S56x32 .f32) (i : grid0.Coords) (b q o0 o1 o2 : ℕ)
    (h1 : ∀ a, offG i (BitVec.ofNat 32 b) q a + S1x1.size a ≤ S56x32.size a)
    (h2 : ∀ a, (![o0, o1] : Fin 2 → ℕ) a + S128x128.size a ≤ S256x4096.size a)
    (hp : 0 < S1x1.numel)
    (hb : b < 2) (hq : q < 32) (ho0 : o0 = 128 * b) (ho1 : o1 = 128 * q) (ho2 : o2 = 256 + 128 * b) (y : S128x128.Idx)
    (z : S512x4096.Idx) (hz0 : (z 0).val = o2 + 1 * (y 0).val) (hz1 : (z 1).val = o1 + 1 * (y 1).val) :
    k0_pay40 (View.readAt (Elt F) args.view (Rect.unit (s := S56x32) (offG i (BitVec.ofNat 32 b) q) S1x1.size h1).toLoadRect (hargs.unread s') (Shape.Idx.first hp))
      (View.readAt (Elt F) arg.view (Rect.unit (s := S256x4096) ![o0, o1] S128x128.size h2).toLoadRect (harg.unread x')) y
      = wbOf (i 1) x x' s s' z := by
  rw [wpiece harg hargs x' s' i b q o0 o1 hb hq ho0 ho1 h1 h2 hp y]
  have e0 : (z 0).val = 256 + (128 * b + (y 0).val) := by omega
  have e1 : (z 1).val = 128 * q + (y 1).val := by omega
  unfold wbOf
  rw [dif_neg (by rw [e0]; omega)]
  congr 1 <;> apply Fin.ext
  · show 128 * b + (y 0).val = _ - 256
    rw [e0]; omega
  · exact e1.symm

/-! ## What the block's product is made into -/

/-- The products of one block: the gate's activation times the up projection. -/
def hOf (xb : Vec F S1024x4096 .bf16) (wb : Vec F S512x4096 .bf16) : FVec F S1024x256 .f32 :=
  k0_pay213 (k0_pay211 xb wb) (k0_pay212 xb wb)

/-- The block's codes, two groups of 128 columns. -/
def codesOf (xb : Vec F S1024x4096 .bf16) (wb : Vec F S512x4096 .bf16) : Vec F S1024x256 .fp8e4m3 := fun y =>
  if h : (y 1).val < 128 then
    k0_pay219 (Scalar.ofBits .f32 0x43E00000#32) (k0_pay218 (k0_pay211 xb wb) (k0_pay212 xb wb))
      (ix2 (n0 := 1024) (n1 := 128) ⟨(y 0).val, (y 0).isLt⟩ ⟨(y 1).val, h⟩)
  else
    k0_pay224 (k0_pay221 (hOf xb wb)) (k0_pay222 (hOf xb wb))
      (ix2 (n0 := 1024) (n1 := 128) ⟨(y 0).val, (y 0).isLt⟩ ⟨(y 1).val - 128, by have : (y 1).val < 256 := (y 1).isLt; omega⟩)

/-- The scales of the block's first group, one a row, and of its second. -/
def scl0 (xb : Vec F S1024x4096 .bf16) (wb : Vec F S512x4096 .bf16) : FVec F S1024x1 .f32 :=
  k0_pay217 (k0_pay211 xb wb) (k0_pay212 xb wb)
def scl1 (xb : Vec F S1024x4096 .bf16) (wb : Vec F S512x4096 .bf16) : FVec F S1024x1 .f32 :=
  k0_pay223 (hOf xb wb)

/-- The scales' buffer with the point's two columns written. -/
def updOf (j : Fin 28) (o : Vec F S1024x56 .f32) (s0 s1 : FVec F S1024x1 .f32) : Vec F S1024x56 .f32 := fun y =>
  if (y 1).val = 2 * j.val + 1 then s1 (ix2 (n0 := 1024) (n1 := 1) ⟨(y 0).val, (y 0).isLt⟩ 0)
  else if (y 1).val = 2 * j.val then s0 (ix2 (n0 := 1024) (n1 := 1) ⟨(y 0).val, (y 0).isLt⟩ 0)
  else o y

end Cert.Kernel.Run

end
-- ==== Proof.K.Out.lean ====
/-
  The block of codes and the buffer of scales, from the stores the kernel's body makes into them.
-/
module

public import proofs.«01_k».proof.Proof.K.Block

@[expose] public section

set_option maxRecDepth 16384

noncomputable section

namespace Cert.Kernel.Run

open Cert.Kernel.Gen
open Idealize.ShloMosaic Idealize.ShloMosaic.TcCoe Idealize.ShloMosaic.Tactic
open Idealize.ShloMosaic.View (canon)

variable {F : FTy → Type} [FloatOps F]

variable (c : Dev nD) (i : grid0.Coords)
  (arg2 : Memref sig .tc .vmem S1024x4096 .fp8e4m3) (harg2 : arg2.IsWhole) (arg3 : Memref sig .tc .vmem S1024x32 .f32) (harg3 : arg3.IsWhole)
  (arg4 : Memref sig .tc .vmem S256x4096 .fp8e4m3) (harg4 : arg4.IsWhole) (arg5 : Memref sig .tc .vmem S256x4096 .fp8e4m3) (harg5 : arg5.IsWhole)
  (arg6 : Memref sig .tc .smem S56x32 .f32) (harg6 : arg6.IsWhole) (arg7 : Memref sig .tc .smem S56x32 .f32) (harg7 : arg7.IsWhole)
  (arg8 : Memref sig .tc .vmem S1024x256 .fp8e4m3) (harg8 : arg8.IsWhole) (arg9 : Memref sig .tc .vmem S1024x56 .f32) (harg9 : arg9.IsWhole)
  (arg10 : Memref sig .tc .vmem S1024x4096 .bf16) (harg10 : arg10.IsWhole) (arg11 : Memref sig .tc .vmem S512x4096 .bf16) (harg11 : arg11.IsWhole)
  (x0 : Vec F S1024x4096 .fp8e4m3) (x1 : Vec F S1024x32 .f32)
  (x2 : Vec F S256x4096 .fp8e4m3) (x3 : Vec F S256x4096 .fp8e4m3) (x4 : Vec F S56x32 .f32) (x5 : Vec F S56x32 .f32)

omit [FloatOps F] in
/-- A load of a whole buffer reads its contents. -/
theorem load_x {a : Memref sig .tc .vmem S1024x4096 .bf16} (ha : a.IsWhole) (x : Vec F S1024x4096 .bf16)
    (h : ∀ k, (![0, 0] : Fin 2 → ℕ) k + (![1024, 4096] : Fin 2 → ℕ) k ≤ S1024x4096.size k) :
    View.readAt (Elt F) a.view (Rect.unit (s := S1024x4096) ![0, 0] ![1024, 4096] h).toLoadRect (ha.unread x) = x := by
  funext j
  rw [View.readAt_apply, ha.read_unread]
  congr 1
  funext k
  apply Fin.ext
  match k with
  | ⟨0, _⟩ => show 0 + 1 * (j 0).val = _; simp
  | ⟨1, _⟩ => show 0 + 1 * (j 1).val = _; simp

omit [FloatOps F] in
theorem load_s {a : Memref sig .tc .vmem S1024x56 .f32} (ha : a.IsWhole) (x : Vec F S1024x56 .f32)
    (h : ∀ k, (![0, 0] : Fin 2 → ℕ) k + (![1024, 56] : Fin 2 → ℕ) k ≤ S1024x56.size k) :
    View.readAt (Elt F) a.view (Rect.unit (s := S1024x56) ![0, 0] ![1024, 56] h).toLoadRect (ha.unread x) = x := by
  funext j
  rw [View.readAt_apply, ha.read_unread]
  congr 1
  funext k
  apply Fin.ext
  match k with
  | ⟨0, _⟩ => show 0 + 1 * (j 0).val = _; simp
  | ⟨1, _⟩ => show 0 + 1 * (j 1).val = _; simp

/-- The two stores into the codes' buffer. -/
def codesL (xb : Vec F S1024x4096 .bf16) (wb : Vec F S512x4096 .bf16) : List (View.Piece (Elt F) S1024x256 .fp8e4m3) :=
  [⟨Rect.unit (s := S1024x256) ![0, 128] S1024x128.size inb_S1024x256_S1024x128_0_128, k0_pay224 (k0_pay221 (hOf xb wb)) (k0_pay222 (hOf xb wb))⟩,
   ⟨Rect.unit (s := S1024x256) ![0, 0] S1024x128.size inb_S1024x256_S1024x128_0_0, k0_pay219 (Scalar.ofBits .f32 0x43E00000#32) (k0_pay218 (k0_pay211 xb wb) (k0_pay212 xb wb))⟩]

theorem codesL_cover (xb : Vec F S1024x4096 .bf16) (wb : Vec F S512x4096 .bf16) : ∀ y, ∃ p ∈ codesL xb wb, y ∈ p.1.set :=
  View.cover_of_tiled _ S1024x128.size (by rfl)

theorem codesL_canon (xb : Vec F S1024x4096 .bf16) (wb : Vec F S512x4096 .bf16) : canon (codesL xb wb) = codesOf xb wb := by
  funext y
  refine View.canon_apply_of_pieces _ _ ?_ y (codesL_cover xb wb y)
  refine List.forall_mem_cons.2 ⟨fun x => ?_, List.forall_mem_cons.2 ⟨fun x => ?_, fun p hp => absurd hp List.not_mem_nil⟩⟩
  · have h1 : (x 1).val < 128 := (x 1).isLt
    have e : (((Rect.unit (s := S1024x256) ![0, 128] S1024x128.size inb_S1024x256_S1024x128_0_128).emb x) 1).val = 128 + 1 * (x 1).val := rfl
    show k0_pay224 _ _ x = codesOf xb wb _
    unfold codesOf
    rw [dif_neg (by rw [e]; omega)]
    congr 1
    funext k
    apply Fin.ext
    match k with
    | ⟨0, _⟩ => show _ = 0 + 1 * (x 0).val; simp
    | ⟨1, _⟩ => show (x 1).val = 128 + 1 * (x 1).val - 128; omega
  · have h1 : (x 1).val < 128 := (x 1).isLt
    have e : (((Rect.unit (s := S1024x256) ![0, 0] S1024x128.size inb_S1024x256_S1024x128_0_0).emb x) 1).val = 0 + 1 * (x 1).val := rfl
    show k0_pay219 _ _ x = codesOf xb wb _
    unfold codesOf
    rw [dif_pos (by rw [e]; omega)]
    congr 1
    funext k
    apply Fin.ext
    match k with
    | ⟨0, _⟩ => show _ = 0 + 1 * (x 0).val; simp
    | ⟨1, _⟩ => show (x 1).val = 0 + 1 * (x 1).val; omega

/-- The store into the scales' buffer. -/
def sclL (j : Fin 28) (o : Vec F S1024x56 .f32) (s0 s1 : FVec F S1024x1 .f32) : List (View.Piece (Elt F) S1024x56 .f32) :=
  [⟨Rect.unit (s := S1024x56) ![0, 0] S1024x56.size inb_S1024x56_S1024x56_0_0,
    k0_pay1 (BitVec.ofNat 32 j.val) (iota .tc S1024x56 32 [1] iota_S1024x56_d1_w32)
      (k0_pay220 (BitVec.ofNat 32 j.val) (iota .tc S1024x56 32 [1] iota_S1024x56_d1_w32) (k0_pay214 o) s0) s1⟩]

theorem sclL_cover (j : Fin 28) (o : Vec F S1024x56 .f32) (s0 s1 : FVec F S1024x1 .f32) : ∀ y, ∃ p ∈ sclL j o s0 s1, y ∈ p.1.set :=
  View.cover_of_tiled _ S1024x56.size (by rfl)

/-- Comparing a lane's number with the one written. -/
theorem lane_eq (j : Fin 28) (r : ℕ) (hr : r < 2) (l : ℕ) (hl : l < 56) :
    (BitVec.ofNat 32 l = BitVec.ofNat 32 j.val * 2#32 + BitVec.ofNat 32 r) ↔ l = 2 * j.val + r := by
  have hj := j.isLt
  rw [← BitVec.toNat_inj]
  simp [BitVec.toNat_add, BitVec.toNat_mul]
  omega

theorem pay220_apply (j : Fin 28) (r : ℕ) (hr : r < 2) (o : FVec F S1024x56 .f32) (s : FVec F S1024x1 .f32) (y : S1024x56.Idx)
    (f : BitVec 32 → FVec F S1024x56 .f32)
    (hf : f = fun v => select (cmpi .eq (iota .tc S1024x56 32 [1] iota_S1024x56_d1_w32) (broadcast S1024x56 v))
      (broadcastTo S1024x56 (shapeCast S1024x1 s shapeCasts_S1024x1_S1024x1) broadcasts_S1024x1_S1024x56) o) :
    f (Scalar.addi (Scalar.muli (BitVec.ofNat 32 j.val) 2#32) (BitVec.ofNat 32 r)) y
      = if (y 1).val = 2 * j.val + r then s (ix2 (n0 := 1024) (n1 := 1) ⟨(y 0).val, (y 0).isLt⟩ 0) else o y := by
  have hy : (y 1).val < 56 := (y 1).isLt
  subst hf
  have hi : iota .tc S1024x56 32 [1] iota_S1024x56_d1_w32 y = BitVec.ofNat 32 (y 1).val := by pointwise
  show Scalar.select (IntOp.cmpi .eq (iota .tc S1024x56 32 [1] iota_S1024x56_d1_w32 y) (BitVec.ofNat 32 j.val * 2#32 + BitVec.ofNat 32 r))
    (broadcastTo S1024x56 (shapeCast S1024x1 s shapeCasts_S1024x1_S1024x1) broadcasts_S1024x1_S1024x56 y) (o y) = _
  rw [hi, show ∀ a b : BitVec 32, IntOp.cmpi .eq a b = BitVec.ofBool (decide (a = b)) from fun a b => by simp only [IntOp.cmpi, beq_eq_decide]]
  have hl := lane_eq j r hr (y 1).val hy
  by_cases h : (y 1).val = 2 * j.val + r
  · rw [if_pos h, decide_eq_true (hl.2 h)]
    show broadcastTo S1024x56 (shapeCast S1024x1 s shapeCasts_S1024x1_S1024x1) broadcasts_S1024x1_S1024x56 y = _
    rw [shapeCast_self, broadcastTo_apply _ _ y (ix2 (n0 := 1024) (n1 := 1) ⟨(y 0).val, (y 0).isLt⟩ 0)]
    intro a
    match a with
    | ⟨0, _⟩ => show (y 0).val = _; simp
    | ⟨1, _⟩ => show 0 = _; simp
  · rw [if_neg h, decide_eq_false (fun e => h (hl.1 e))]
    rfl

theorem sclL_canon (j : Fin 28) (o : Vec F S1024x56 .f32) (s0 s1 : FVec F S1024x1 .f32) : canon (sclL j o s0 s1) = updOf j o s0 s1 := by
  funext y
  refine View.canon_apply_of_pieces _ _ ?_ y (sclL_cover j o s0 s1 y)
  refine List.forall_mem_cons.2 ⟨fun x => ?_, fun p hp => absurd hp List.not_mem_nil⟩
  have ex : (Rect.unit (s := S1024x56) ![0, 0] S1024x56.size inb_S1024x56_S1024x56_0_0).emb x = x := by
    funext k
    apply Fin.ext
    match k with
    | ⟨0, _⟩ => show 0 + 1 * (x 0).val = _; simp
    | ⟨1, _⟩ => show 0 + 1 * (x 1).val = _; simp
  show k0_pay1 _ _ _ _ x = updOf j o s0 s1 _
  rw [ex]
  refine (pay220_apply j 1 (by omega) _ s1 x (fun v => select (cmpi .eq (iota .tc S1024x56 32 [1] iota_S1024x56_d1_w32) (broadcast S1024x56 v))
      (broadcastTo S1024x56 (shapeCast S1024x1 s1 shapeCasts_S1024x1_S1024x1) broadcasts_S1024x1_S1024x56) (k0_pay220 (BitVec.ofNat 32 j.val) (iota .tc S1024x56 32 [1] iota_S1024x56_d1_w32) (k0_pay214 o) s0)) rfl).trans ?_
  unfold updOf
  congr 1
  refine (pay220_apply j 0 (by omega) _ s0 x (fun v => select (cmpi .eq (iota .tc S1024x56 32 [1] iota_S1024x56_d1_w32) (broadcast S1024x56 v))
      (broadcastTo S1024x56 (shapeCast S1024x1 s0 shapeCasts_S1024x1_S1024x1) broadcasts_S1024x1_S1024x56) (k0_pay214 o)) rfl).trans ?_
  unfold k0_pay214
  rw [shapeCast_self, Nat.add_zero]

end Cert.Kernel.Run

end
-- ==== Proof.K.Data.lean ====
/-
  The blocks the kernel reads at a grid point, as elements of its arrays; what each point computes; and what the carried buffers
  hold between points: the widened activations of the current row of blocks, and the scales of the points already run.
-/
module

public import proofs.«01_k».proof.Proof.K.Out
public import Idealize.ShloMosaic.Lib.Claim

@[expose] public section

set_option maxRecDepth 16384

noncomputable section

namespace Cert.Kernel.Run

open Cert.Kernel.Gen
open Idealize.ShloMosaic Idealize.ShloMosaic.TcCoe Idealize.ShloMosaic.Tactic
open Idealize.ShloMosaic.Pipeline (Dat Cfg Window)

variable {F : FTy → Type} [FloatOps F]

variable (m : (ℓ : Loc nD τ sig) → Buf (Elt F) ℓ) (c : Dev nD)

theorem lt168 (t : Fin cfg0.N) : t.val < 168 := lt_of_lt_of_eq t.isLt (show cfg0.N = 168 from N_0)

/-- Which block of its array each window stands on at a point. -/
theorem idx (t : Fin cfg0.N) : win0_0.index t = ![t.val / 28, 0] ∧ win0_1.index t = ![t.val / 28, 0]
    ∧ win0_2.index t = ![t.val % 28, 0] ∧ win0_3.index t = ![t.val % 28, 0]
    ∧ win0_4.index t = ![0, 0] ∧ win0_5.index t = ![0, 0]
    ∧ win0_6.index t = ![t.val / 28, t.val % 28] ∧ win0_7.index t = ![t.val / 28, 0] := by
  have h : ∀ t : Fin grid0.N, win0_0.index t = ![t.val / 28, 0] ∧ win0_1.index t = ![t.val / 28, 0]
    ∧ win0_2.index t = ![t.val % 28, 0] ∧ win0_3.index t = ![t.val % 28, 0]
    ∧ win0_4.index t = ![0, 0] ∧ win0_5.index t = ![0, 0]
    ∧ win0_6.index t = ![t.val / 28, t.val % 28] ∧ win0_7.index t = ![t.val / 28, 0] := by decide +kernel
  exact h t

theorem coord1 (t : Fin cfg0.N) : (grid0.coords t 1).val = t.val % 28 := by
  have h : ∀ t : Fin grid0.N, (grid0.coords t 1).val = t.val % 28 := by decide +kernel
  exact h t

theorem iblk0_apply (t : Fin cfg0.N) (y : S1024x4096.Idx) : iblk m c 0 t y
    = V m c main_v0 (ix2 (n0 := 6144) (n1 := 4096) ⟨1024 * (t.val / 28) + (y 0).val, by have := lt168 t; have : (y 0).val < 1024 := (y 0).isLt; omega⟩ ⟨(y 1).val, (y 1).isLt⟩) := by
  have := lt168 t
  blk_ext [iblk, idx t]
theorem iblk1_apply (t : Fin cfg0.N) (y : S1024x32.Idx) : iblk m c 1 t y
    = V m c main_v1 (ix2 (n0 := 6144) (n1 := 32) ⟨1024 * (t.val / 28) + (y 0).val, by have := lt168 t; have : (y 0).val < 1024 := (y 0).isLt; omega⟩ ⟨(y 1).val, (y 1).isLt⟩) := by
  have := lt168 t
  blk_ext [iblk, idx t]
theorem iblk2_apply (t : Fin cfg0.N) (y : S256x4096.Idx) : iblk m c 2 t y
    = V m c main_arg2 (ix2 (n0 := 7168) (n1 := 4096) ⟨256 * (t.val % 28) + (y 0).val, by have : (y 0).val < 256 := (y 0).isLt; omega⟩ ⟨(y 1).val, (y 1).isLt⟩) := by
  have := lt168 t
  blk_ext [iblk, idx t]
theorem iblk3_apply (t : Fin cfg0.N) (y : S256x4096.Idx) : iblk m c 3 t y
    = V m c main_arg4 (ix2 (n0 := 7168) (n1 := 4096) ⟨256 * (t.val % 28) + (y 0).val, by have : (y 0).val < 256 := (y 0).isLt; omega⟩ ⟨(y 1).val, (y 1).isLt⟩) := by
  have := lt168 t
  blk_ext [iblk, idx t]
theorem iblk4_apply (t : Fin cfg0.N) (y : S56x32.Idx) : iblk m c 4 t y = V m c main_arg3 (ix2 (n0 := 56) (n1 := 32) ⟨(y 0).val, (y 0).isLt⟩ ⟨(y 1).val, (y 1).isLt⟩) := by
  blk_ext [iblk, idx t]
theorem iblk5_apply (t : Fin cfg0.N) (y : S56x32.Idx) : iblk m c 5 t y = V m c main_arg5 (ix2 (n0 := 56) (n1 := 32) ⟨(y 0).val, (y 0).isLt⟩ ⟨(y 1).val, (y 1).isLt⟩) := by
  blk_ext [iblk, idx t]

/-- The widened activations and weights of a point. -/
def XB (t : Fin cfg0.N) : Vec F S1024x4096 .bf16 := xbOf (iblk m c 0 t) (iblk m c 1 t)
def WB (t : Fin cfg0.N) : Vec F S512x4096 .bf16 := wbOf (grid0.coords t 1) (iblk m c 2 t) (iblk m c 3 t) (iblk m c 4 t) (iblk m c 5 t)

/-- The activations depend on the row of blocks alone. -/
theorem XB_congr {t u : Fin cfg0.N} (h : t.val / 28 = u.val / 28) : XB m c t = XB m c u := by
  have h0 : (iblk m c 0 t : Vec F S1024x4096 .fp8e4m3) = iblk m c 0 u := funext fun y =>
    (iblk0_apply m c t y).trans ((congrArg (V m c main_v0) (by congr 1; exact Fin.ext (by show 1024 * (t.val / 28) + _ = 1024 * (u.val / 28) + _; rw [h]))).trans (iblk0_apply m c u y).symm)
  have h1 : (iblk m c 1 t : Vec F S1024x32 .f32) = iblk m c 1 u := funext fun y =>
    (iblk1_apply m c t y).trans ((congrArg (V m c main_v1) (by congr 1; exact Fin.ext (by show 1024 * (t.val / 28) + _ = 1024 * (u.val / 28) + _; rw [h]))).trans (iblk1_apply m c u y).symm)
  exact congrArg₂ xbOf h0 h1

/-- The codes a point writes, and the scales of its two groups. -/
def codesAt (t : Fin cfg0.N) : Vec F S1024x256 .fp8e4m3 := codesOf (XB m c t) (WB m c t)
def sclAt0 (t : Fin cfg0.N) : FVec F S1024x1 .f32 := scl0 (XB m c t) (WB m c t)
def sclAt1 (t : Fin cfg0.N) : FVec F S1024x1 .f32 := scl1 (XB m c t) (WB m c t)

/-- The scales' buffer after point `t`: the columns of the points of the row of blocks run so far. -/
def sclSpec (t : Fin cfg0.N) (X : Vec F S1024x56 .f32) : Prop :=
  ∀ (u : Fin cfg0.N), u.val / 28 = t.val / 28 → u.val ≤ t.val → ∀ y : S1024x56.Idx,
    ((y 1).val = 2 * (u.val % 28) → X y = sclAt0 m c u (ix2 (n0 := 1024) (n1 := 1) ⟨(y 0).val, (y 0).isLt⟩ 0))
    ∧ ((y 1).val = 2 * (u.val % 28) + 1 → X y = sclAt1 m c u (ix2 (n0 := 1024) (n1 := 1) ⟨(y 0).val, (y 0).isLt⟩ 0))

/-- A point adds its two columns. -/
theorem sclSpec_step (t : Fin cfg0.N) (o : Vec F S1024x56 .f32)
    (h : t.val % 28 ≠ 0 → ∀ s : Fin cfg0.N, s.val + 1 = t.val → sclSpec m c s o) :
    sclSpec m c t (updOf (grid0.coords t 1) o (sclAt0 m c t) (sclAt1 m c t)) := by
  intro u hu hle y
  have e : (grid0.coords t 1).val = t.val % 28 := coord1 t
  by_cases hut : u = t
  · subst hut
    unfold updOf
    rw [e]
    refine ⟨fun hy => ?_, fun hy => ?_⟩
    · rw [if_neg (by omega), if_pos hy]
    · rw [if_pos hy]
  · have hlt : u.val < t.val := lt_of_le_of_ne hle fun k => hut (Fin.ext k)
    have hu' := lt168 u
    have ht' := lt168 t
    obtain ⟨h0, h1⟩ := h (by omega) ⟨t.val - 1, by have := t.isLt; omega⟩ (by show t.val - 1 + 1 = _; omega) u (by show _ = (t.val - 1) / 28; omega) (by show _ ≤ t.val - 1; omega) y
    unfold updOf
    rw [e]
    refine ⟨fun hy => ?_, fun hy => ?_⟩
    · rw [if_neg (by omega), if_neg (by omega)]; exact h0 hy
    · rw [if_neg (by omega), if_neg (by omega)]; exact h1 hy

end Cert.Kernel.Run

end
-- ==== Proof.K.RunA.lean ====
/-
  The kernel's body run once at a first point of a row of blocks (the scratch of widened activations is filled): what it
  stores into each buffer, as the list of its stores.
-/
module

public import proofs.«01_k».proof.Proof.K.Runs

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body's triple at a first point of a row of blocks (the scratch of widened activations is filled):
    the inputs are handed back as they were, the codes' buffer holds the stores `L6`, the scales' buffer, found holding `o`,
    the stores `L7`, the widened activations' scratch the stores `Lx`. -/
def runA (c : Dev nD) (i : grid0.Coords) (arg2 : Memref sig .tc .vmem S1024x4096 .fp8e4m3) (harg2 : arg2.IsWhole) (arg3 : Memref sig .tc .vmem S1024x32 .f32) (harg3 : arg3.IsWhole) (arg4 : Memref sig .tc .vmem S256x4096 .fp8e4m3) (harg4 : arg4.IsWhole) (arg5 : Memref sig .tc .vmem S256x4096 .fp8e4m3) (harg5 : arg5.IsWhole) (arg6 : Memref sig .tc .smem S56x32 .f32) (harg6 : arg6.IsWhole) (arg7 : Memref sig .tc .smem S56x32 .f32) (harg7 : arg7.IsWhole) (arg8 : Memref sig .tc .vmem S1024x256 .fp8e4m3) (harg8 : arg8.IsWhole) (arg9 : Memref sig .tc .vmem S1024x56 .f32) (harg9 : arg9.IsWhole) (arg10 : Memref sig .tc .vmem S1024x4096 .bf16) (harg10 : arg10.IsWhole) (arg11 : Memref sig .tc .vmem S512x4096 .bf16) (harg11 : arg11.IsWhole) (hc0 : cond0_0 i)
    (x0 : Vec F S1024x4096 .fp8e4m3) (x1 : Vec F S1024x32 .f32) (x2 : Vec F S256x4096 .fp8e4m3) (x3 : Vec F S256x4096 .fp8e4m3) (x4 : Vec F S56x32 .f32) (x5 : Vec F S56x32 .f32)
    (o : Vec F S1024x56 .f32) :
    Σ' (L6 : List (View.Piece (Elt F) S1024x256 .fp8e4m3)) (Lx : List (View.Piece (Elt F) S1024x4096 .bf16)),
      { L7 : List (View.Piece (Elt F) S1024x56 .f32) // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare o ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f Lx) ∗ (∃ d, owns (c : Thread nD τ) arg11 fullShare d)) -∗ K ⟨⟩))
          ⊢ wp frame (wpE (defs₀ (F := F)) Variants.none c none) E (cc0_gate_up_swiglu i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_gate_up_swiglu_eq_skeleton]; unfold cc0_gate_up_swiglu_skel
    simp only [k0_part55_eq_skeleton, k0_part10_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists f6; iexact H6
    isplitl [H7]
    · iexists (harg9.unread o); iexact H7
    isplitl [HS0]
    · iexists fs0; iexact HS0
    iexists _, _; isplitr; swap; · iexact HS1
    ipureintro; rfl

end Cert.Kernel.Run

end
-- ==== Proof.K.LeftA.lean ====
/-
  The kernel's body leaves the widened operands of the block in its scratch buffers (first point of a row of blocks).
-/
module

public import proofs.«01_k».proof.Proof.K.RunA
public import proofs.«01_k».proof.Proof.K.Block

@[expose] public section

set_option maxRecDepth 16384

noncomputable section

namespace Cert.Kernel.Run

open Cert.Kernel.Gen
open Idealize.ShloMosaic Idealize.ShloMosaic.TcCoe Idealize.ShloMosaic.Tactic
open Idealize.ShloMosaic.View (canon)

variable {F : FTy → Type} [FloatOps F]

variable (c : Dev nD) (i : grid0.Coords)
  (arg2 : Memref sig .tc .vmem S1024x4096 .fp8e4m3) (harg2 : arg2.IsWhole) (arg3 : Memref sig .tc .vmem S1024x32 .f32) (harg3 : arg3.IsWhole)
  (arg4 : Memref sig .tc .vmem S256x4096 .fp8e4m3) (harg4 : arg4.IsWhole) (arg5 : Memref sig .tc .vmem S256x4096 .fp8e4m3) (harg5 : arg5.IsWhole)
  (arg6 : Memref sig .tc .smem S56x32 .f32) (harg6 : arg6.IsWhole) (arg7 : Memref sig .tc .smem S56x32 .f32) (harg7 : arg7.IsWhole)
  (arg8 : Memref sig .tc .vmem S1024x256 .fp8e4m3) (harg8 : arg8.IsWhole) (arg9 : Memref sig .tc .vmem S1024x56 .f32) (harg9 : arg9.IsWhole)
  (arg10 : Memref sig .tc .vmem S1024x4096 .bf16) (harg10 : arg10.IsWhole) (arg11 : Memref sig .tc .vmem S512x4096 .bf16) (harg11 : arg11.IsWhole)
  (x0 : Vec F S1024x4096 .fp8e4m3) (x1 : Vec F S1024x32 .f32)
  (x2 : Vec F S256x4096 .fp8e4m3) (x3 : Vec F S256x4096 .fp8e4m3) (x4 : Vec F S56x32 .f32) (x5 : Vec F S56x32 .f32)

set_option maxHeartbeats 4000000 in
/-- Each store into the weights' scratch is the piece of `wbOf` at its place. -/
theorem runA_wpieces : ∀ p ∈ runA.sl.HS1_128 c i arg4 harg4 arg5 harg5 arg6 harg6 arg7 harg7 x2 x3 x4 x5,
    ∀ y, p.2 y = wbOf (i 1) x2 x3 x4 x5 (p.1.emb y) := by
  sl_unfold_run_names
  iterate 64 refine List.forall_mem_cons.2 ⟨fun y => wup harg5 harg7 x2 x3 x4 x5 i _ _ _ _ _ _ _ _ (by omega) (by omega) (by rfl) (by rfl) (by rfl) y _ rfl rfl, ?_⟩
  iterate 64 refine List.forall_mem_cons.2 ⟨fun y => wgate harg4 harg6 x2 x3 x4 x5 i _ _ _ _ _ _ _ (by omega) (by omega) (by rfl) (by rfl) y _ rfl rfl, ?_⟩
  exact fun p hp => absurd hp List.not_mem_nil

set_option maxHeartbeats 4000000 in
/-- The stores cover the scratch. -/
theorem runA_wcover : ∀ y, ∃ p ∈ runA.sl.HS1_128 c i arg4 harg4 arg5 harg5 arg6 harg6 arg7 harg7 x2 x3 x4 x5, y ∈ p.1.set := by
  sl_unfold_run_names
  exact View.cover_of_tiled _ S128x128.size (by rfl)

/-- The weights as the product reads them. -/
theorem runA_v1540 : runA.sl.v1540 c i arg4 harg4 arg5 harg5 arg6 harg6 arg7 harg7 arg11 x2 x3 x4 x5 = wbOf (i 1) x2 x3 x4 x5 := by
  unfold runA.sl.v1540
  rw [View.readCov_eq_canon']
  funext j
  refine (View.canon_apply_of_pieces _ _ (runA_wpieces c i arg4 harg4 arg5 harg5 arg6 harg6 arg7 harg7 x2 x3 x4 x5) _
    (runA_wcover c i arg4 harg4 arg5 harg5 arg6 harg6 arg7 harg7 x2 x3 x4 x5 _)).trans ?_
  congr 1
  funext a
  apply Fin.ext
  match a with
  | ⟨0, _⟩ => show 0 + 1 * (j 0).val = _; simp
  | ⟨1, _⟩ => show 0 + 1 * (j 1).val = _; simp

set_option maxHeartbeats 4000000 in
/-- Each store into the activations' scratch is the piece of `xbOf` at its place. -/
theorem runA_xpieces : ∀ p ∈ runA.sl.HS0_32 c arg2 harg2 arg3 harg3 x0 x1, ∀ y, p.2 y = xbOf x0 x1 (p.1.emb y) := by
  sl_unfold_run_names
  iterate 32 refine List.forall_mem_cons.2 ⟨fun y => xpiece harg2 harg3 x0 x1 _ _ _ _ (by rfl) y _ rfl, ?_⟩
  exact fun p hp => absurd hp List.not_mem_nil

set_option maxHeartbeats 4000000 in
/-- The stores cover the scratch. -/
theorem runA_xcover : ∀ y, ∃ p ∈ runA.sl.HS0_32 c arg2 harg2 arg3 harg3 x0 x1, y ∈ p.1.set := by
  sl_unfold_run_names
  exact View.cover_of_tiled _ S1024x128.size (by rfl)

/-- What the stores into the activations' scratch leave. -/
theorem runA_xcanon : canon (runA.sl.HS0_32 c arg2 harg2 arg3 harg3 x0 x1) = xbOf x0 x1 := funext fun y =>
  View.canon_apply_of_pieces _ _ (runA_xpieces c arg2 harg2 arg3 harg3 x0 x1) _ (runA_xcover c arg2 harg2 arg3 harg3 x0 x1 _)

/-- The activations as the product reads them. -/
theorem runA_v1539 : runA.sl.v1539 c arg2 harg2 arg3 harg3 arg10 x0 x1 = xbOf x0 x1 := by
  unfold runA.sl.v1539
  rw [View.readCov_eq_canon', runA_xcanon]
  funext j
  congr 1
  funext a
  apply Fin.ext
  match a with
  | ⟨0, _⟩ => show 0 + 1 * (j 0).val = _; simp
  | ⟨1, _⟩ => show 0 + 1 * (j 1).val = _; simp

end Cert.Kernel.Run

end
-- ==== Proof.K.OutA.lean ====
/-
  What the kernel's body leaves in its outputs' buffers (first point of a row of blocks).
-/
module

public import proofs.«01_k».proof.Proof.K.LeftA
public import proofs.«01_k».proof.Proof.K.Out

@[expose] public section

set_option maxRecDepth 16384

noncomputable section

namespace Cert.Kernel.Run

open Cert.Kernel.Gen
open Idealize.ShloMosaic Idealize.ShloMosaic.TcCoe Idealize.ShloMosaic.Tactic
open Idealize.ShloMosaic.View (canon)

variable {F : FTy → Type} [FloatOps F]

variable (c : Dev nD) (i : grid0.Coords)
  (arg2 : Memref sig .tc .vmem S1024x4096 .fp8e4m3) (harg2 : arg2.IsWhole) (arg3 : Memref sig .tc .vmem S1024x32 .f32) (harg3 : arg3.IsWhole)
  (arg4 : Memref sig .tc .vmem S256x4096 .fp8e4m3) (harg4 : arg4.IsWhole) (arg5 : Memref sig .tc .vmem S256x4096 .fp8e4m3) (harg5 : arg5.IsWhole)
  (arg6 : Memref sig .tc .smem S56x32 .f32) (harg6 : arg6.IsWhole) (arg7 : Memref sig .tc .smem S56x32 .f32) (harg7 : arg7.IsWhole)
  (arg8 : Memref sig .tc .vmem S1024x256 .fp8e4m3) (harg8 : arg8.IsWhole) (arg9 : Memref sig .tc .vmem S1024x56 .f32) (harg9 : arg9.IsWhole)
  (arg10 : Memref sig .tc .vmem S1024x4096 .bf16) (harg10 : arg10.IsWhole) (arg11 : Memref sig .tc .vmem S512x4096 .bf16) (harg11 : arg11.IsWhole)
  (x0 : Vec F S1024x4096 .fp8e4m3) (x1 : Vec F S1024x32 .f32)
  (x2 : Vec F S256x4096 .fp8e4m3) (x3 : Vec F S256x4096 .fp8e4m3) (x4 : Vec F S56x32 .f32) (x5 : Vec F S56x32 .f32)

set_option maxHeartbeats 1000000 in
theorem runA_L6 (hc0 : cond0_0 i) (o : Vec F S1024x56 .f32)  : (runA c i arg2 harg2 arg3 harg3 arg4 harg4 arg5 harg5 arg6 harg6 arg7 harg7 arg8 harg8 arg9 harg9 arg10 harg10 arg11 harg11 hc0 x0 x1 x2 x3 x4 x5 o ).1 = codesL (xbOf x0 x1) (wbOf (i 1) x2 x3 x4 x5) := by
  unfold runA
  dsimp only
  simp only [runA.sl.r_228, runA.sl.r_227, runA.sl.r_226, runA.sl.r_225, runA.sl.r_224, runA.sl.r_223, runA.sl.r_222, runA.sl.r_221, runA.sl.r_220, runA.sl.r_219, runA.sl.r_218, runA_v1539, runA_v1540]
  rfl

set_option maxHeartbeats 1000000 in
theorem runA_L7 (hc0 : cond0_0 i) (o : Vec F S1024x56 .f32)  : (runA c i arg2 harg2 arg3 harg3 arg4 harg4 arg5 harg5 arg6 harg6 arg7 harg7 arg8 harg8 arg9 harg9 arg10 harg10 arg11 harg11 hc0 x0 x1 x2 x3 x4 x5 o ).2.2.1 = sclL (i 1) o (scl0 (xbOf x0 x1) (wbOf (i 1) x2 x3 x4 x5)) (scl1 (xbOf x0 x1) (wbOf (i 1) x2 x3 x4 x5)) := by
  unfold runA
  dsimp only
  simp only [runA.sl.r_228, runA.sl.r_227, runA.sl.r_226, runA.sl.r_225, runA.sl.r_224, runA.sl.r_223, runA.sl.r_222, runA.sl.r_221, runA.sl.r_220, runA.sl.r_219, runA.sl.r_218, runA_v1539, runA_v1540, load_s]
  rfl

theorem runA_Lx (hc0 : cond0_0 i) (o : Vec F S1024x56 .f32)  : (runA c i arg2 harg2 arg3 harg3 arg4 harg4 arg5 harg5 arg6 harg6 arg7 harg7 arg8 harg8 arg9 harg9 arg10 harg10 arg11 harg11 hc0 x0 x1 x2 x3 x4 x5 o ).2.1 = runA.sl.HS0_32 c arg2 harg2 arg3 harg3 x0 x1 := by
  unfold runA
  rfl

end Cert.Kernel.Run

end
-- ==== Proof.K.StepA.lean ====
/-
  The kernel's body as a step from the contents of its buffers to their contents (first point of a row of blocks).
-/
module

public import proofs.«01_k».proof.Proof.K.OutA

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg2 : Memref sig .tc .vmem S1024x4096 .fp8e4m3) (harg2 : arg2.IsWhole) (arg3 : Memref sig .tc .vmem S1024x32 .f32) (harg3 : arg3.IsWhole)
  (arg4 : Memref sig .tc .vmem S256x4096 .fp8e4m3) (harg4 : arg4.IsWhole) (arg5 : Memref sig .tc .vmem S256x4096 .fp8e4m3) (harg5 : arg5.IsWhole)
  (arg6 : Memref sig .tc .smem S56x32 .f32) (harg6 : arg6.IsWhole) (arg7 : Memref sig .tc .smem S56x32 .f32) (harg7 : arg7.IsWhole)
  (arg8 : Memref sig .tc .vmem S1024x256 .fp8e4m3) (harg8 : arg8.IsWhole) (arg9 : Memref sig .tc .vmem S1024x56 .f32) (harg9 : arg9.IsWhole)
  (arg10 : Memref sig .tc .vmem S1024x4096 .bf16) (harg10 : arg10.IsWhole) (arg11 : Memref sig .tc .vmem S512x4096 .bf16) (harg11 : arg11.IsWhole)
  (x0 : Vec F S1024x4096 .fp8e4m3) (x1 : Vec F S1024x32 .f32)
  (x2 : Vec F S256x4096 .fp8e4m3) (x3 : Vec F S256x4096 .fp8e4m3) (x4 : Vec F S56x32 .f32) (x5 : Vec F S56x32 .f32)

omit [FloatOps F] in
/-- What a run establishes of its lists of stores holds of lists equal to them. -/
theorem ofSigma3 {α β γ : Type _} {P : α → β → γ → Prop} (S : Σ' (a : α) (b : β), {c : γ // P a b c}) {a : α} {b : β} {c : γ}
    (ha : S.1 = a) (hb : S.2.1 = b) (hc : S.2.2.1 = c) : P a b c := by
  subst ha hb hc; exact S.2.2.2

set_option maxHeartbeats 1600000 in
theorem stepA (hc0 : cond0_0 i) (o : Vec F S1024x56 .f32)  (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare o ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (codesOf (xbOf x0 x1) (wbOf (i 1) x2 x3 x4 x5)) ∗ owns (c : Thread nD τ) arg9 fullShare (updOf (i 1) o (scl0 (xbOf x0 x1) (wbOf (i 1) x2 x3 x4 x5)) (scl1 (xbOf x0 x1) (wbOf (i 1) x2 x3 x4 x5))) ∗ owns (c : Thread nD τ) arg10 fullShare (xbOf x0 x1) ∗ (∃ d, owns (c : Thread nD τ) arg11 fullShare d)) -∗ K ⟨⟩))
      ⊢ wp frame (wpE (defs₀ (F := F)) Variants.none c none) E (cc0_gate_up_swiglu i arg2 harg2 arg3 harg3 arg4 harg4 arg5 harg5 arg6 harg6 arg7 harg7 arg8 harg8 arg9 harg9 arg10 harg10 arg11 harg11) K := by
  have h := ofSigma3 (runA c i arg2 harg2 arg3 harg3 arg4 harg4 arg5 harg5 arg6 harg6 arg7 harg7 arg8 harg8 arg9 harg9 arg10 harg10 arg11 harg11 hc0 x0 x1 x2 x3 x4 x5 o ) (runA_L6 c i arg2 harg2 arg3 harg3 arg4 harg4 arg5 harg5 arg6 harg6 arg7 harg7 arg8 harg8 arg9 harg9 arg10 harg10 arg11 harg11 x0 x1 x2 x3 x4 x5 hc0 o ) (runA_Lx c i arg2 harg2 arg3 harg3 arg4 harg4 arg5 harg5 arg6 harg6 arg7 harg7 arg8 harg8 arg9 harg9 arg10 harg10 arg11 harg11 x0 x1 x2 x3 x4 x5 hc0 o) (runA_L7 c i arg2 harg2 arg3 harg3 arg4 harg4 arg5 harg5 arg6 harg6 arg7 harg7 arg8 harg8 arg9 harg9 arg10 harg10 arg11 harg11 x0 x1 x2 x3 x4 x5 hc0 o ) E K
  beta_reduce at h
  refine BIBase.Entails.trans ?_ h
  iintro ⟨H0, H1, H2, H3, H4, H5, H6, H7, HS0, HS1, Hk⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, H4, H5, ⟨%f6, H6⟩, ⟨%f7, H7⟩, ⟨%fs, HS0⟩, HS1⟩
  iapply Hk
  isplitl [H0]; · iexact H0
  isplitl [H1]; · iexact H1
  isplitl [H2]; · iexact H2
  isplitl [H3]; · iexact H3
  isplitl [H4]; · iexact H4
  isplitl [H5]; · iexact H5
  isplitl [H6]
  · unfold owns
    iexists _
    isplitr; swap
    · iexact H6
    · ipureintro
      exact (View.read_writes_eq_canon _ _ _ (codesL_cover _ _)).trans (codesL_canon _ _)
  isplitl [H7]
  · unfold owns
    iexists _
    isplitr; swap
    · iexact H7
    · ipureintro
      exact (View.read_writes_eq_canon _ _ _ (sclL_cover _ _ _ _)).trans (sclL_canon _ _ _ _)
  isplitl [HS0]
  · unfold owns
    iexists _
    isplitr; swap
    · iexact HS0
    · ipureintro
      exact (View.read_writes_eq_canon _ _ _ (runA_xcover c arg2 harg2 arg3 harg3 x0 x1)).trans (runA_xcanon c arg2 harg2 arg3 harg3 x0 x1)
  iexact HS1

end Cert.Kernel.Run

end
-- ==== Proof.K.RunB.lean ====
/-
  The kernel's body run once at a later point of a row of blocks (the scratch of widened activations is read as it was left): what it
  stores into each buffer, as the list of its stores.
-/
module

public import proofs.«01_k».proof.Proof.K.RunA

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body's triple at a later point of a row of blocks (the scratch of widened activations is read as it was left):
    the inputs are handed back as they were, the codes' buffer holds the stores `L6`, the scales' buffer, found holding `o`,
    the stores `L7`. -/
def runB (c : Dev nD) (i : grid0.Coords) (arg2 : Memref sig .tc .vmem S1024x4096 .fp8e4m3) (harg2 : arg2.IsWhole) (arg3 : Memref sig .tc .vmem S1024x32 .f32) (harg3 : arg3.IsWhole) (arg4 : Memref sig .tc .vmem S256x4096 .fp8e4m3) (harg4 : arg4.IsWhole) (arg5 : Memref sig .tc .vmem S256x4096 .fp8e4m3) (harg5 : arg5.IsWhole) (arg6 : Memref sig .tc .smem S56x32 .f32) (harg6 : arg6.IsWhole) (arg7 : Memref sig .tc .smem S56x32 .f32) (harg7 : arg7.IsWhole) (arg8 : Memref sig .tc .vmem S1024x256 .fp8e4m3) (harg8 : arg8.IsWhole) (arg9 : Memref sig .tc .vmem S1024x56 .f32) (harg9 : arg9.IsWhole) (arg10 : Memref sig .tc .vmem S1024x4096 .bf16) (harg10 : arg10.IsWhole) (arg11 : Memref sig .tc .vmem S512x4096 .bf16) (harg11 : arg11.IsWhole) (hc0 : ¬cond0_0 i)
    (x0 : Vec F S1024x4096 .fp8e4m3) (x1 : Vec F S1024x32 .f32) (x2 : Vec F S256x4096 .fp8e4m3) (x3 : Vec F S256x4096 .fp8e4m3) (x4 : Vec F S56x32 .f32) (x5 : Vec F S56x32 .f32)
    (o : Vec F S1024x56 .f32) (b : Vec F S1024x4096 .bf16) :
    Σ' (L6 : List (View.Piece (Elt F) S1024x256 .fp8e4m3)),
      { L7 : List (View.Piece (Elt F) S1024x56 .f32) // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare o ∗ owns (c : Thread nD τ) arg10 fullShare b ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ owns (c : Thread nD τ) arg10 fullShare b ∗ (∃ d, owns (c : Thread nD τ) arg11 fullShare d)) -∗ K ⟨⟩))
          ⊢ wp frame (wpE (defs₀ (F := F)) Variants.none c none) E (cc0_gate_up_swiglu i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0_gate_up_swiglu_eq_skeleton]; unfold cc0_gate_up_swiglu_skel
    simp only [k0_part55_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists f6; iexact H6
    isplitl [H7]
    · iexists (harg9.unread o); iexact H7
    isplitl [HS0]
    · iexists _; isplitr; · ipureintro; exact harg10.read_unread _
      iexact HS0
    iexists _, _; isplitr; swap; · iexact HS1
    ipureintro; rfl

end Cert.Kernel.Run

end
-- ==== Proof.K.LeftB.lean ====
/-
  The kernel's body leaves the widened operands of the block in its scratch buffers (later point of a row of blocks).
-/
module

public import proofs.«01_k».proof.Proof.K.RunB
public import proofs.«01_k».proof.Proof.K.Block

@[expose] public section

set_option maxRecDepth 16384

noncomputable section

namespace Cert.Kernel.Run

open Cert.Kernel.Gen
open Idealize.ShloMosaic Idealize.ShloMosaic.TcCoe Idealize.ShloMosaic.Tactic
open Idealize.ShloMosaic.View (canon)

variable {F : FTy → Type} [FloatOps F]

variable (c : Dev nD) (i : grid0.Coords)
  (arg2 : Memref sig .tc .vmem S1024x4096 .fp8e4m3) (harg2 : arg2.IsWhole) (arg3 : Memref sig .tc .vmem S1024x32 .f32) (harg3 : arg3.IsWhole)
  (arg4 : Memref sig .tc .vmem S256x4096 .fp8e4m3) (harg4 : arg4.IsWhole) (arg5 : Memref sig .tc .vmem S256x4096 .fp8e4m3) (harg5 : arg5.IsWhole)
  (arg6 : Memref sig .tc .smem S56x32 .f32) (harg6 : arg6.IsWhole) (arg7 : Memref sig .tc .smem S56x32 .f32) (harg7 : arg7.IsWhole)
  (arg8 : Memref sig .tc .vmem S1024x256 .fp8e4m3) (harg8 : arg8.IsWhole) (arg9 : Memref sig .tc .vmem S1024x56 .f32) (harg9 : arg9.IsWhole)
  (arg10 : Memref sig .tc .vmem S1024x4096 .bf16) (harg10 : arg10.IsWhole) (arg11 : Memref sig .tc .vmem S512x4096 .bf16) (harg11 : arg11.IsWhole)
  (x0 : Vec F S1024x4096 .fp8e4m3) (x1 : Vec F S1024x32 .f32)
  (x2 : Vec F S256x4096 .fp8e4m3) (x3 : Vec F S256x4096 .fp8e4m3) (x4 : Vec F S56x32 .f32) (x5 : Vec F S56x32 .f32)

set_option maxHeartbeats 4000000 in
/-- Each store into the weights' scratch is the piece of `wbOf` at its place. -/
theorem runB_wpieces : ∀ p ∈ runB.sl.HS1_128 c i arg4 harg4 arg5 harg5 arg6 harg6 arg7 harg7 x2 x3 x4 x5,
    ∀ y, p.2 y = wbOf (i 1) x2 x3 x4 x5 (p.1.emb y) := by
  sl_unfold_run_names
  iterate 64 refine List.forall_mem_cons.2 ⟨fun y => wup harg5 harg7 x2 x3 x4 x5 i _ _ _ _ _ _ _ _ (by omega) (by omega) (by rfl) (by rfl) (by rfl) y _ rfl rfl, ?_⟩
  iterate 64 refine List.forall_mem_cons.2 ⟨fun y => wgate harg4 harg6 x2 x3 x4 x5 i _ _ _ _ _ _ _ (by omega) (by omega) (by rfl) (by rfl) y _ rfl rfl, ?_⟩
  exact fun p hp => absurd hp List.not_mem_nil

set_option maxHeartbeats 4000000 in
/-- The stores cover the scratch. -/
theorem runB_wcover : ∀ y, ∃ p ∈ runB.sl.HS1_128 c i arg4 harg4 arg5 harg5 arg6 harg6 arg7 harg7 x2 x3 x4 x5, y ∈ p.1.set := by
  sl_unfold_run_names
  exact View.cover_of_tiled _ S128x128.size (by rfl)

/-- The weights as the product reads them. -/
theorem runB_v1540 : runB.sl.v1540 c i arg4 harg4 arg5 harg5 arg6 harg6 arg7 harg7 arg11 x2 x3 x4 x5 = wbOf (i 1) x2 x3 x4 x5 := by
  unfold runB.sl.v1540
  rw [View.readCov_eq_canon']
  funext j
  refine (View.canon_apply_of_pieces _ _ (runB_wpieces c i arg4 harg4 arg5 harg5 arg6 harg6 arg7 harg7 x2 x3 x4 x5) _
    (runB_wcover c i arg4 harg4 arg5 harg5 arg6 harg6 arg7 harg7 x2 x3 x4 x5 _)).trans ?_
  congr 1
  funext a
  apply Fin.ext
  match a with
  | ⟨0, _⟩ => show 0 + 1 * (j 0).val = _; simp
  | ⟨1, _⟩ => show 0 + 1 * (j 1).val = _; simp

end Cert.Kernel.Run

end
-- ==== Proof.K.OutB.lean ====
/-
  What the kernel's body leaves in its outputs' buffers (later point of a row of blocks).
-/
module

public import proofs.«01_k».proof.Proof.K.LeftB
public import proofs.«01_k».proof.Proof.K.Out

@[expose] public section

set_option maxRecDepth 16384

noncomputable section

namespace Cert.Kernel.Run

open Cert.Kernel.Gen
open Idealize.ShloMosaic Idealize.ShloMosaic.TcCoe Idealize.ShloMosaic.Tactic
open Idealize.ShloMosaic.View (canon)

variable {F : FTy → Type} [FloatOps F]

variable (c : Dev nD) (i : grid0.Coords)
  (arg2 : Memref sig .tc .vmem S1024x4096 .fp8e4m3) (harg2 : arg2.IsWhole) (arg3 : Memref sig .tc .vmem S1024x32 .f32) (harg3 : arg3.IsWhole)
  (arg4 : Memref sig .tc .vmem S256x4096 .fp8e4m3) (harg4 : arg4.IsWhole) (arg5 : Memref sig .tc .vmem S256x4096 .fp8e4m3) (harg5 : arg5.IsWhole)
  (arg6 : Memref sig .tc .smem S56x32 .f32) (harg6 : arg6.IsWhole) (arg7 : Memref sig .tc .smem S56x32 .f32) (harg7 : arg7.IsWhole)
  (arg8 : Memref sig .tc .vmem S1024x256 .fp8e4m3) (harg8 : arg8.IsWhole) (arg9 : Memref sig .tc .vmem S1024x56 .f32) (harg9 : arg9.IsWhole)
  (arg10 : Memref sig .tc .vmem S1024x4096 .bf16) (harg10 : arg10.IsWhole) (arg11 : Memref sig .tc .vmem S512x4096 .bf16) (harg11 : arg11.IsWhole)
  (x0 : Vec F S1024x4096 .fp8e4m3) (x1 : Vec F S1024x32 .f32)
  (x2 : Vec F S256x4096 .fp8e4m3) (x3 : Vec F S256x4096 .fp8e4m3) (x4 : Vec F S56x32 .f32) (x5 : Vec F S56x32 .f32)

set_option maxHeartbeats 1000000 in
theorem runB_L6 (hc0 : ¬cond0_0 i) (o : Vec F S1024x56 .f32) (b : Vec F S1024x4096 .bf16) : (runB c i arg2 harg2 arg3 harg3 arg4 harg4 arg5 harg5 arg6 harg6 arg7 harg7 arg8 harg8 arg9 harg9 arg10 harg10 arg11 harg11 hc0 x0 x1 x2 x3 x4 x5 o b).1 = codesL b (wbOf (i 1) x2 x3 x4 x5) := by
  unfold runB
  dsimp only
  simp only [runB.sl.r_222, runB.sl.r_221, runB.sl.r_220, runB.sl.r_219, runB.sl.r_218, runB.sl.r_217, runB.sl.r_216, runB.sl.r_215, runB.sl.r_214, runB.sl.r_213, runB.sl.r_212, load_x, runB_v1540]
  rfl

set_option maxHeartbeats 1000000 in
theorem runB_L7 (hc0 : ¬cond0_0 i) (o : Vec F S1024x56 .f32) (b : Vec F S1024x4096 .bf16) : (runB c i arg2 harg2 arg3 harg3 arg4 harg4 arg5 harg5 arg6 harg6 arg7 harg7 arg8 harg8 arg9 harg9 arg10 harg10 arg11 harg11 hc0 x0 x1 x2 x3 x4 x5 o b).2.1 = sclL (i 1) o (scl0 b (wbOf (i 1) x2 x3 x4 x5)) (scl1 b (wbOf (i 1) x2 x3 x4 x5)) := by
  unfold runB
  dsimp only
  simp only [runB.sl.r_222, runB.sl.r_221, runB.sl.r_220, runB.sl.r_219, runB.sl.r_218, runB.sl.r_217, runB.sl.r_216, runB.sl.r_215, runB.sl.r_214, runB.sl.r_213, runB.sl.r_212, load_x, runB_v1540, load_s]
  rfl

end Cert.Kernel.Run

end
-- ==== Proof.K.StepB.lean ====
/-
  The kernel's body as a step from the contents of its buffers to their contents (later point of a row of blocks).
-/
module

public import proofs.«01_k».proof.Proof.K.OutB

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg2 : Memref sig .tc .vmem S1024x4096 .fp8e4m3) (harg2 : arg2.IsWhole) (arg3 : Memref sig .tc .vmem S1024x32 .f32) (harg3 : arg3.IsWhole)
  (arg4 : Memref sig .tc .vmem S256x4096 .fp8e4m3) (harg4 : arg4.IsWhole) (arg5 : Memref sig .tc .vmem S256x4096 .fp8e4m3) (harg5 : arg5.IsWhole)
  (arg6 : Memref sig .tc .smem S56x32 .f32) (harg6 : arg6.IsWhole) (arg7 : Memref sig .tc .smem S56x32 .f32) (harg7 : arg7.IsWhole)
  (arg8 : Memref sig .tc .vmem S1024x256 .fp8e4m3) (harg8 : arg8.IsWhole) (arg9 : Memref sig .tc .vmem S1024x56 .f32) (harg9 : arg9.IsWhole)
  (arg10 : Memref sig .tc .vmem S1024x4096 .bf16) (harg10 : arg10.IsWhole) (arg11 : Memref sig .tc .vmem S512x4096 .bf16) (harg11 : arg11.IsWhole)
  (x0 : Vec F S1024x4096 .fp8e4m3) (x1 : Vec F S1024x32 .f32)
  (x2 : Vec F S256x4096 .fp8e4m3) (x3 : Vec F S256x4096 .fp8e4m3) (x4 : Vec F S56x32 .f32) (x5 : Vec F S56x32 .f32)

omit [FloatOps F] in
/-- What a run establishes of its lists of stores holds of lists equal to them. -/
theorem ofSigma2 {α γ : Type _} {P : α → γ → Prop} (S : Σ' (a : α), {c : γ // P a c}) {a : α} {c : γ}
    (ha : S.1 = a) (hc : S.2.1 = c) : P a c := by
  subst ha hc; exact S.2.2

set_option maxHeartbeats 1600000 in
theorem stepB (hc0 : ¬cond0_0 i) (o : Vec F S1024x56 .f32) (b : Vec F S1024x4096 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare o ∗ owns (c : Thread nD τ) arg10 fullShare b ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (codesOf b (wbOf (i 1) x2 x3 x4 x5)) ∗ owns (c : Thread nD τ) arg9 fullShare (updOf (i 1) o (scl0 b (wbOf (i 1) x2 x3 x4 x5)) (scl1 b (wbOf (i 1) x2 x3 x4 x5))) ∗ owns (c : Thread nD τ) arg10 fullShare b ∗ (∃ d, owns (c : Thread nD τ) arg11 fullShare d)) -∗ K ⟨⟩))
      ⊢ wp frame (wpE (defs₀ (F := F)) Variants.none c none) E (cc0_gate_up_swiglu i arg2 harg2 arg3 harg3 arg4 harg4 arg5 harg5 arg6 harg6 arg7 harg7 arg8 harg8 arg9 harg9 arg10 harg10 arg11 harg11) K := by
  have h := ofSigma2 (runB c i arg2 harg2 arg3 harg3 arg4 harg4 arg5 harg5 arg6 harg6 arg7 harg7 arg8 harg8 arg9 harg9 arg10 harg10 arg11 harg11 hc0 x0 x1 x2 x3 x4 x5 o b) (runB_L6 c i arg2 harg2 arg3 harg3 arg4 harg4 arg5 harg5 arg6 harg6 arg7 harg7 arg8 harg8 arg9 harg9 arg10 harg10 arg11 harg11 x0 x1 x2 x3 x4 x5 hc0 o b)  (runB_L7 c i arg2 harg2 arg3 harg3 arg4 harg4 arg5 harg5 arg6 harg6 arg7 harg7 arg8 harg8 arg9 harg9 arg10 harg10 arg11 harg11 x0 x1 x2 x3 x4 x5 hc0 o b) E K
  beta_reduce at h
  refine BIBase.Entails.trans ?_ h
  iintro ⟨H0, H1, H2, H3, H4, H5, H6, H7, HS0, HS1, Hk⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, H4, H5, ⟨%f6, H6⟩, ⟨%f7, H7⟩, HS0, HS1⟩
  iapply Hk
  isplitl [H0]; · iexact H0
  isplitl [H1]; · iexact H1
  isplitl [H2]; · iexact H2
  isplitl [H3]; · iexact H3
  isplitl [H4]; · iexact H4
  isplitl [H5]; · iexact H5
  isplitl [H6]
  · unfold owns
    iexists _
    isplitr; swap
    · iexact H6
    · ipureintro
      exact (View.read_writes_eq_canon _ _ _ (codesL_cover _ _)).trans (codesL_canon _ _)
  isplitl [H7]
  · unfold owns
    iexists _
    isplitr; swap
    · iexact H7
    · ipureintro
      exact (View.read_writes_eq_canon _ _ _ (sclL_cover _ _ _ _)).trans (sclL_canon _ _ _ _)
  isplitl [HS0]
  · iexact HS0
  iexact HS1

end Cert.Kernel.Run

end
-- ==== Proof.K.Body.lean ====
/-
  The kernel's body at any grid point: what it finds in the buffers it is handed and what it leaves there.
-/
module

public import proofs.«01_k».proof.Proof.K.Data
public import proofs.«01_k».proof.Proof.K.StepA
public import proofs.«01_k».proof.Proof.K.StepB
public import Idealize.ShloMosaic.Lib.Pipeline.DatRel

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F]

local notation "𝕄" => MT nD τ sig Unit (Elt F) ℕ (UR sig nD τ) ℕ

variable (m : (ℓ : Loc nD τ sig) → Buf (Elt F) ℓ)

/-- The scales' window is the one held to a predicate. -/
def marks : Fin 8 → Bool := fun w => w.val == 7

/-- What a point may leave in the scales' buffer (`sclSpec`); nothing is asked of another window. -/
def Rl (c : Dev nD) : (w : Fin cfg0.W) → Fin cfg0.N → ((cfg0.win w).block.Idx → Elt F (cfg0.win w).elt) → Prop
  | ⟨7, _⟩ => fun t X => sclSpec m c t X
  | _ => fun _ _ => True

/-- Between points: the widened activations' scratch holds the row of blocks' activations once its first point has run. -/
def PhiX (c : Dev nD) (k : Fin (cfg0.N + 1)) : sProp 𝕄 :=
  iprop(iprop((∃ d, ⌜∀ t : Fin cfg0.N, k.val % 28 ≠ 0 → t.val / 28 = k.val / 28 → d = XB m c t⌝ ∗ owns (c : Thread nD τ) scM0_0 fullShare d)
    ∗ (∃ d, owns (c : Thread nD τ) scM0_1 fullShare d)) ∗ (∃ r, prngReg c r))

/-- The proof data: the arrays as the region finds them, each input's buffer at its block, the codes' buffer at the point's codes. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => codesAt m c t
    | ⟨7, h⟩ => Pipeline.Dat.unnamed (cfg := cfg0) ⟨7, h⟩ t
  Φ k := PhiX m c k
  q _ := fullShare
  owed _ := 0

theorem A_eq (c : Dev nD) (w : Fin cfg0.W) : (dats m c).A w = V m c (Pipeline.arrRef spec0 w) := by
  dsimp only [dats]
theorem Phi_eq (c : Dev nD) (k : Fin (cfg0.N + 1)) : (dats m c).Φ k = PhiX m c k := by
  dsimp only [dats]

theorem after0_0 (c : Dev nD) (t : Fin cfg0.N) : (dats m c).after 0 t = iblk m c 0 t := by dsimp only [dats]
theorem after0_1 (c : Dev nD) (t : Fin cfg0.N) : (dats m c).after 1 t = iblk m c 1 t := by dsimp only [dats]
theorem after0_2 (c : Dev nD) (t : Fin cfg0.N) : (dats m c).after 2 t = iblk m c 2 t := by dsimp only [dats]
theorem after0_3 (c : Dev nD) (t : Fin cfg0.N) : (dats m c).after 3 t = iblk m c 3 t := by dsimp only [dats]
theorem after0_4 (c : Dev nD) (t : Fin cfg0.N) : (dats m c).after 4 t = iblk m c 4 t := by dsimp only [dats]
theorem after0_5 (c : Dev nD) (t : Fin cfg0.N) : (dats m c).after 5 t = iblk m c 5 t := by dsimp only [dats]
theorem after0_6 (c : Dev nD) (t : Fin cfg0.N) : (dats m c).after 6 t = codesAt m c t := by dsimp only [dats]

theorem before0_0 (c : Dev nD) (t : Fin cfg0.N) (d) : (dats m c).before 0 t d = iblk m c 0 t :=
  before0_0_of m (dats m c) (A_eq m c 0) (after0_0 m c) t d
theorem before0_1 (c : Dev nD) (t : Fin cfg0.N) (d) : (dats m c).before 1 t d = iblk m c 1 t :=
  before0_1_of m (dats m c) (A_eq m c 1) (after0_1 m c) t d
theorem before0_2 (c : Dev nD) (t : Fin cfg0.N) (d) : (dats m c).before 2 t d = iblk m c 2 t :=
  before0_2_of m (dats m c) (A_eq m c 2) (after0_2 m c) t d
theorem before0_3 (c : Dev nD) (t : Fin cfg0.N) (d) : (dats m c).before 3 t d = iblk m c 3 t :=
  before0_3_of m (dats m c) (A_eq m c 3) (after0_3 m c) t d
theorem before0_4 (c : Dev nD) (t : Fin cfg0.N) (d) : (dats m c).before 4 t d = iblk m c 4 t :=
  before0_4_of m (dats m c) (A_eq m c 4) (after0_4 m c) t d
theorem before0_5 (c : Dev nD) (t : Fin cfg0.N) (d) : (dats m c).before 5 t d = iblk m c 5 t :=
  before0_5_of m (dats m c) (A_eq m c 5) (after0_5 m c) t d

/-- What the body finds in the scales' buffer at a later point of a row of blocks meets the predicate of the point before. -/
theorem finds7 (c : Dev nD) (t : Fin cfg0.N) (Y : (cfg0.win 7).block.Idx → Elt F (cfg0.win 7).elt)
    (h : ((dats m c).toRRel marks (Rl m c)).Finds 7 t Y) (h0 : t.val % 28 ≠ 0) (s : Fin cfg0.N) (hs : s.val + 1 = t.val) : sclSpec m c s Y := by
  have hz : t.val ≠ 0 := fun e => h0 (by rw [e])
  have hn : (cfg0.win 7).fetch t = false := Pipeline.Window.fetch_out _ rfl t
  have h := (Pipeline.RDat.finds_of_pos _ hn hz Y).1 h
  have es : (⟨t.val - 1, Nat.lt_of_le_of_lt (Nat.sub_le _ _) t.isLt⟩ : Fin cfg0.N) = s := Fin.ext (by show t.val - 1 = s.val; omega)
  rw [es] at h
  rcases h with h | h
  · have := (flush0_7 s).1 h
    omega
  · exact Dat.toRRel_leaves _ (show marks 7 = true from rfl) h

/-! ## The body obligation, at a generic point -/

/-- What the body is called with at point `t`, -/
def bodyPre (c : Dev nD) (t : Fin cfg0.N) : sProp 𝕄 :=
  iprop((dats m c).Φ t.castSucc ∗ (dats m c).owesAt () t.castSucc
    ∗ (∃ d, owns (c : Thread nD τ) (ms0_0 t) fullShare ((dats m c).before 0 t d))
    ∗ (∃ d, owns (c : Thread nD τ) (ms0_1 t) fullShare ((dats m c).before 1 t d))
    ∗ (∃ d, owns (c : Thread nD τ) (ms0_2 t) fullShare ((dats m c).before 2 t d))
    ∗ (∃ d, owns (c : Thread nD τ) (ms0_3 t) fullShare ((dats m c).before 3 t d))
    ∗ (∃ d, owns (c : Thread nD τ) (ms0_4 t) fullShare ((dats m c).before 4 t d))
    ∗ (∃ d, owns (c : Thread nD τ) (ms0_5 t) fullShare ((dats m c).before 5 t d))
    ∗ (∃ d, owns (c : Thread nD τ) (ms0_6 t) fullShare ((dats m c).before 6 t d))
    ∗ (∃ Y, ⌜((dats m c).toRRel marks (Rl m c)).Finds 7 t Y⌝ ∗ owns (c : Thread nD τ) (ms0_7 t) fullShare Y))

/-- and what it returns. -/
def bodyPost (c : Dev nD) (t : Fin cfg0.N) : sProp 𝕄 :=
  iprop((dats m c).Φ t.succ ∗ (dats m c).owesAt () t.succ
    ∗ owns (c : Thread nD τ) (ms0_0 t) fullShare ((dats m c).after 0 t)
    ∗ owns (c : Thread nD τ) (ms0_1 t) fullShare ((dats m c).after 1 t)
    ∗ owns (c : Thread nD τ) (ms0_2 t) fullShare ((dats m c).after 2 t)
    ∗ owns (c : Thread nD τ) (ms0_3 t) fullShare ((dats m c).after 3 t)
    ∗ owns (c : Thread nD τ) (ms0_4 t) fullShare ((dats m c).after 4 t)
    ∗ owns (c : Thread nD τ) (ms0_5 t) fullShare ((dats m c).after 5 t)
    ∗ owns (c : Thread nD τ) (ms0_6 t) fullShare ((dats m c).after 6 t)
    ∗ (∃ X, ⌜Rl m c 7 t X⌝ ∗ owns (c : Thread nD τ) (ms0_7 t) fullShare X))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [Phi_eq, Phi_eq,
    show (dats m c).owesAt () t.succ = (dats m c).owesAt () t.castSucc from rfl,
    after0_0, after0_1, after0_2, after0_3, after0_4, after0_5, after0_6]
  unfold PhiX
  have hN : t.val < 168 := lt168 t
  by_cases h0 : t.val % 28 = 0
  · iintro ⟨⟨⟨⟨%e0, -, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%Y, %hY, H7⟩⟩
    iapply (stepA c (grid0.coords t) _ _ _ _ _ _ _ _ _ _ _ _ _ _ _ _ _ _ _ _ (iblk m c 0 t) (iblk m c 1 t) (iblk m c 2 t) (iblk m c 3 t) (iblk m c 4 t) (iblk m c 5 t) ((hcond0_0 t).mpr h0) Y Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS0]; · iexists _; iexact HS0
    isplitl [HS1]; · iexact HS1
    iintro ⟨H0, H1, H2, H3, H4, H5, H6, H7, HS0, HS1⟩
    isplitl [HS0 HS1 Hg]
    · isplitl [HS0 HS1]
      · isplitl [HS0]
        · iexists (XB m c t)
          isplitr
          · ipureintro
            intro u hu hd
            have : u.val / 28 = t.val / 28 := by
              have hd' : u.val / 28 = (t.val + 1) / 28 := hd
              omega
            exact (XB_congr m c this).symm
          · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    · iexists (updOf (grid0.coords t 1) Y (sclAt0 m c t) (sclAt1 m c t))
      isplitr
      · ipureintro
        exact sclSpec_step m c t Y fun h => absurd h0 h
      · iexact H7
  · iintro ⟨⟨⟨⟨%e0, %he0, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%Y, %hY, H7⟩⟩
    obtain rfl : e0 = XB m c t := he0 t h0 rfl
    iapply (stepB c (grid0.coords t) _ _ _ _ _ _ _ _ _ _ _ _ _ _ _ _ _ _ _ _ (iblk m c 0 t) (iblk m c 1 t) (iblk m c 2 t) (iblk m c 3 t) (iblk m c 4 t) (iblk m c 5 t) (fun h => h0 ((hcond0_0 t).mp h)) Y (XB m c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS0]; · iexact HS0
    isplitl [HS1]; · iexact HS1
    iintro ⟨H0, H1, H2, H3, H4, H5, H6, H7, HS0, HS1⟩
    isplitl [HS0 HS1 Hg]
    · isplitl [HS0 HS1]
      · isplitl [HS0]
        · iexists (XB m c t)
          isplitr
          · ipureintro
            intro u hu hd
            have : u.val / 28 = t.val / 28 := by
              have hd' : u.val / 28 = (t.val + 1) / 28 := hd
              have hu' : (t.val + 1) % 28 ≠ 0 := hu
              omega
            exact (XB_congr m c this).symm
          · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    · iexists (updOf (grid0.coords t 1) Y (sclAt0 m c t) (sclAt1 m c t))
      isplitr
      · ipureintro
        exact sclSpec_step m c t Y fun h s hs => finds7 m c t Y hY h s hs
      · iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligationRel (dats (F := F) m c) (defs₀ (F := F)) Variants.none () Set.univ marks (Rl m c) := fun t => by
  rw [bigSep_W0, bigSep_W0, defs₀_row]
  exact triple_restated (sound_body m c t) rfl .rfl fun _ => .rfl

end Cert.Kernel.Run

end
-- ==== Proof.K.Final.lean ====
/-
  The kernel's run from launch to end: it ends with every counter at zero and the arguments unchanged, and its two results hold
  the codes and the scales of the grid points, block by block.
-/
module

public import proofs.«01_k».proof.Proof.K.Body
public import Idealize.ShloMosaic.Lib.Pipeline.ArrRel
public import Idealize.ShloMosaic.Lib.Pipeline.ValueKit

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data with the scales' window held to its predicate. -/
def rdats (c : Dev nD) : RDat τ (Elt F) Unit ℕ (UR sig nD τ) ℕ (cfgs 0) c := (dats m c).toRRel marks (Rl m c)

theorem rdats_A (c : Dev nD) (w : Fin cfg0.W) : (rdats m c).A w = V m c (Pipeline.arrRef spec0 w) := by
  unfold rdats
  rw [Dat.toRRel_A]
  exact A_eq m c w

/-- Before the first point nothing is asked of the scratch. -/
theorem hin (c : Dev nD) : (Pipeline.ΦA spec0 c : sProp 𝕄) ⊢ (rdats m c).Φ 0 := by
  unfold rdats
  rw [Dat.toRRel_Φ, Phi_eq, PhiA0_eq]
  unfold PhiX
  iintro ⟨⟨⟨%d, H0⟩, H1⟩, Hg⟩
  isplitl [H0 H1]
  · isplitl [H0]
    · iexists d
      isplitr
      · ipureintro
        intro t h
        exact absurd rfl h
      · iexact H0
    · iexact H1
  · iexact Hg

/-- After the last point what the scratch holds is forgotten. -/
theorem hout (c : Dev nD) : (rdats m c).Φ (Fin.last cfg0.N) ⊢ (Pipeline.ΦA spec0 c : sProp 𝕄) := by
  unfold rdats
  rw [Dat.toRRel_Φ, Phi_eq, PhiA0_eq]
  unfold PhiX
  iintro ⟨⟨⟨%d, -, H0⟩, H1⟩, Hg⟩
  isplitl [H0 H1]
  · isplitl [H0]
    · iexists d
      iexact H0
    · iexact H1
  · iexact Hg

set_option backward.isDefEq.respectTransparency.types false in
/-- The launch. -/
theorem run_main_quiescent : θ_run defs (onTc (τ := τ) (main (F := F))) (s₀ m ρ)
    (fun r => (RDat.FramePost (cfgs 0) (rdats m) (V m)) r ∧ r.2.sem = fun _ => 0) :=
  RDat.θ_run_frame_track (Q' := _) cfgs (0 : Fin 1) launch0 defs₀ Variants.none (rdats m) m ρ main
    (hbody := fun c => (body_obligation m c).toRRel) (hshare := fun c => (dats m c).share_full fun _ => rfl)
    (howed := fun _ _ => rfl) (V := V m) (hmain := hmain m Variants.none) (hA := rdats_A m) (hin := hin m) (hout := hout m)

theorem run_main : θ_run defs (onTc (τ := τ) (main (F := F))) (s₀ m ρ) (RDat.FramePost (cfgs 0) (rdats m) (V m)) :=
  (θ_run defs _ _).mono (fun _ h => h.1) (run_main_quiescent m ρ)

/-- The arguments end unchanged. -/
theorem kept (r : PUnit × MemSt nD τ sig (Elt F)) (h : RDat.FramePost (cfgs 0) (rdats m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (RDat.FramePost.arr_in h c 2 rfl).trans ((rdats_A m c 2).trans (V_main_arg2 m c)),
      (RDat.FramePost.arr_in h c 4 rfl).trans ((rdats_A m c 4).trans (V_main_arg3 m c)),
      (RDat.FramePost.arr_in h c 3 rfl).trans ((rdats_A m c 3).trans (V_main_arg4 m c)),
      (RDat.FramePost.arr_in h c 5 rfl).trans ((rdats_A m c 5).trans (V_main_arg5 m c))⟩

/-- The frame claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨kept m r h.1, h.2⟩) (run_main_quiescent m ρ)

end Cert.Kernel.Run

end
-- ==== Proof.KI.Runs.lean ====
/-
  What the runs of the kernel's body at the ideal instance are stated over: the one branch condition in closed form over the
  grid, each window's current staging buffer, the two scratch buffers, and the invariant of the launch with the scratch
  buffers as memrefs owned at some contents.
-/
module

public import proofs.«01_k».proof.Proof.Gen.KernelIdeal.Frame
public import proofs.«01_k».proof.Proof.Gen.KernelIdeal.Skeleton

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 28) — by arithmetic of the point. -/
theorem hcond0_0 : ∀ t : Fin cfg0.N, cond0_0 (grid0.coords t) ↔ t.val % 28 = 0 :=
  (fun t => by
    have ht : t.val < 168 := Nat.lt_of_lt_of_eq t.isLt N_0
    have e0 : (grid0.coords t 0).val = t.val / 28 % 6 := Pipeline.Grid.coords_val t 0 (by decide) rfl
    have e1 : (grid0.coords t 1).val = t.val / 1 % 28 := Pipeline.Grid.coords_val t 1 (by decide) rfl
    simp only [cond0_0, e0, e1]
    word_cmp
   : ∀ t : Fin grid0.N, cond0_0 (grid0.coords t) ↔ t.val % 28 = 0)

/-! ## The kernel body on any staging memrefs: a subtype the run finds -/

/-- Each window's current staging memref at point `t`, spelled as the pipeline passes it (`bodyAt0`), and its wholeness. -/
abbrev ms0_0 (t : Fin cfg0.N) : Memref sig .tc .vmem S1024x4096 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x4096 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x4096 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .smem S56x32 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .smem S56x32 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x256 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x56 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S1024x4096 .bf16 := Memref.whole cc0_scratch0
abbrev scM0_1 : Memref sig .tc .vmem S512x4096 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Run

end
-- ==== Proof.KI.Block.lean ====
/-
  What one block of the kernel computes: the activations and the weights of a block widened by their scales, as one array each,
  and the block of codes and the two columns of scales made from their product. With it, for each store of the widening, that it
  stores the piece of that array its place names.
-/
module

public import proofs.«01_k».proof.Proof.KI.Runs
public import Idealize.ShloMosaic.Lib.Pipeline.ValueKit
public import Idealize.ShloMosaic.Lib.Pointwise

@[expose] public section

set_option maxRecDepth 16384

noncomputable section

namespace Cert.KernelIdeal.Run

open Cert.KernelIdeal.Gen
open Idealize.ShloMosaic Idealize.ShloMosaic.TcCoe Idealize.ShloMosaic.Tactic

variable {F : FTy → Type} [FloatOps F]

/-- The activations of one block, each times its group's scale. -/
def xbOf (x0 : Vec F S1024x4096 .fp8e4m3) (x1 : Vec F S1024x32 .f32) : Vec F S1024x4096 .bf16 := fun y =>
  FloatOps.mulf (FloatOps.extf .bf16 bitsLt_fp8e4m3_bf16 (x0 y))
    (FloatOps.truncf .bf16 bitsLt_bf16_f32 (x1 (ix2 (n0 := 1024) (n1 := 32) ⟨(y 0).val, (y 0).isLt⟩ ⟨(y 1).val / 128, by have : (y 1).val < 4096 := (y 1).isLt; omega⟩)))

/-- One weight times its square's scale. -/
def wAt (x : Vec F S256x4096 .fp8e4m3) (s : Vec F S56x32 .f32) (j : Fin 28) (r : Fin 256) (k : Fin 4096) : F .bf16 :=
  FloatOps.mulf (FloatOps.extf .bf16 bitsLt_fp8e4m3_bf16 (x (ix2 (n0 := 256) (n1 := 4096) r k)))
    (FloatOps.truncf .bf16 bitsLt_bf16_f32 (s (ix2 (n0 := 56) (n1 := 32) ⟨2 * j.val + r.val / 128, by omega⟩ ⟨k.val / 128, by omega⟩)))

/-- The weights of one block: the gate's 256 rows, then the up projection's. -/
def wbOf (j : Fin 28) (x2 x3 : Vec F S256x4096 .fp8e4m3) (x4 x5 : Vec F S56x32 .f32) : Vec F S512x4096 .bf16 := fun y =>
  if h : (y 0).val < 256 then wAt x2 x4 j ⟨(y 0).val, h⟩ ⟨(y 1).val, (y 1).isLt⟩
  else wAt x3 x5 j ⟨(y 0).val - 256, by have : (y 0).val < 512 := (y 0).isLt; omega⟩ ⟨(y 1).val, (y 1).isLt⟩

/-- A store of the widened activations: 128 columns. -/
theorem xpiece {arg2 : Memref sig .tc .vmem S1024x4096 .fp8e4m3} (harg2 : arg2.IsWhole) {arg3 : Memref sig .tc .vmem S1024x32 .f32} (harg3 : arg3.IsWhole)
    (x0 : Vec F S1024x4096 .fp8e4m3) (x1 : Vec F S1024x32 .f32) (k o : ℕ)
    (h1 : ∀ a, (![0, k] : Fin 2 → ℕ) a + S1024x1.size a ≤ S1024x32.size a)
    (h2 : ∀ a, (![0, o] : Fin 2 → ℕ) a + S1024x128.size a ≤ S1024x4096.size a) (ho : o = 128 * k)
    (x : S1024x128.Idx) (z : S1024x4096.Idx) (hz : z = (Rect.unit (s := S1024x4096) ![0, o] S1024x128.size h2).emb x) :
    k0_pay2 (View.readAt (Elt F) arg3.view (Rect.unit (s := S1024x32) ![0, k] S1024x1.size h1).toLoadRect (harg3.unread x1))
      (View.readAt (Elt F) arg2.view (Rect.unit (s := S1024x4096) ![0, o] S1024x128.size h2).toLoadRect (harg2.unread x0)) x
      = xbOf x0 x1 z := by
  have hx0 : (x 0).val < 1024 := (x 0).isLt
  have hx1 : (x 1).val < 128 := (x 1).isLt
  subst hz
  subst ho
  unfold k0_pay2 xbOf
  simp only [shapeCast_self]
  show FloatOps.mulf (FloatOps.extf .bf16 _ (View.readAt (Elt F) arg2.view (Rect.unit (s := S1024x4096) ![0, 128 * k] S1024x128.size h2).toLoadRect _ x)) (broadcastTo S1024x128 _ _ x) = _
  rw [broadcastTo_apply _ _ x (ix2 (n0 := 1024) (n1 := 1) ⟨(x 0).val, hx0⟩ ⟨0, by omega⟩)]
  · show FloatOps.mulf (FloatOps.extf .bf16 _ (View.readAt (Elt F) arg2.view (Rect.unit (s := S1024x4096) ![0, 128 * k] S1024x128.size h2).toLoadRect _ x)) (FloatOps.truncf .bf16 _ (View.readAt (Elt F) arg3.view (Rect.unit (s := S1024x32) ![0, k] S1024x1.size h1).toLoadRect _ _)) = _
    rw [View.readAt_apply, View.readAt_apply, harg2.read_unread, harg3.read_unread]
    congr 2
    congr 1
    funext a
    apply Fin.ext
    match a with
    | ⟨0, _⟩ => show 0 + 1 * (x 0).val = 0 + 1 * (x 0).val; rfl
    | ⟨1, _⟩ => show k + 1 * 0 = (128 * k + 1 * (x 1).val) / 128; omega
  · intro a
    match a with
    | ⟨0, _⟩ => show (x 0).val = _ ; simp
    | ⟨1, _⟩ => show 0 = _; simp

/-- Where the scale of a square of weights lies: row `b` of the two this point uses, column `q`. -/
abbrev offG (i : grid0.Coords) (b : BitVec 32) (q : ℕ) : Fin 2 → ℕ :=
  ![(Scalar.indexCast (Scalar.addi (Scalar.muli (BitVec.ofNat 32 (i 1).val) 2#32) b) : Index).toNat, q]

theorem offG_eq (i : grid0.Coords) (b q : ℕ) (hb : b < 2) :
    offG i (BitVec.ofNat 32 b) q = ![2 * (i 1).val + b, q] := by
  have hi : (i 1).val < 28 := (i 1).isLt
  have e0 : (Scalar.indexCast (Scalar.addi (Scalar.muli (BitVec.ofNat 32 (i 1).val) 2#32) (BitVec.ofNat 32 b)) : Index).toNat = 2 * (i 1).val + b := by
    show (BitVec.ofNat 32 (i 1).val * 2#32 + BitVec.ofNat 32 b).toNat = _
    simp [BitVec.toNat_add, BitVec.toNat_mul]
    omega
  unfold offG
  rw [e0]

/-- A store of widened weights, a square of 128 rows and columns. -/
theorem wpiece {arg : Memref sig .tc .vmem S256x4096 .fp8e4m3} (harg : arg.IsWhole) {args : Memref sig .tc .smem S56x32 .f32} (hargs : args.IsWhole)
    (x : Vec F S256x4096 .fp8e4m3) (s : Vec F S56x32 .f32) (i : grid0.Coords) (b q o0 o1 : ℕ) (hb : b < 2) (hq : q < 32)
    (ho0 : o0 = 128 * b) (ho1 : o1 = 128 * q)
    (h1 : ∀ a, offG i (BitVec.ofNat 32 b) q a + S1x1.size a ≤ S56x32.size a)
    (h2 : ∀ a, (![o0, o1] : Fin 2 → ℕ) a + S128x128.size a ≤ S256x4096.size a)
    (hp : 0 < S1x1.numel) (y : S128x128.Idx) :
    k0_pay40 (View.readAt (Elt F) args.view (Rect.unit (s := S56x32) (offG i (BitVec.ofNat 32 b) q) S1x1.size h1).toLoadRect (hargs.unread s) (Shape.Idx.first hp))
      (View.readAt (Elt F) arg.view (Rect.unit (s := S256x4096) ![o0, o1] S128x128.size h2).toLoadRect (harg.unread x)) y
      = wAt x s (i 1) ⟨128 * b + (y 0).val, by have : (y 0).val < 128 := (y 0).isLt; omega⟩ ⟨128 * q + (y 1).val, by have : (y 1).val < 128 := (y 1).isLt; omega⟩ := by
  have hy0 : (y 0).val < 128 := (y 0).isLt
  have hy1 : (y 1).val < 128 := (y 1).isLt
  subst ho0 ho1
  unfold k0_pay40 wAt
  simp only [shapeCast_self]
  show FloatOps.mulf (FloatOps.extf .bf16 _ (View.readAt (Elt F) arg.view (Rect.unit (s := S256x4096) ![128 * b, 128 * q] S128x128.size h2).toLoadRect _ y)) (FloatOps.truncf .bf16 _ (View.readAt (Elt F) args.view (Rect.unit (s := S56x32) (offG i (BitVec.ofNat 32 b) q) S1x1.size h1).toLoadRect _ _)) = _
  rw [View.readAt_apply, View.readAt_apply, harg.read_unread, hargs.read_unread]
  congr 2
  · congr 1
    funext a
    apply Fin.ext
    match a with
    | ⟨0, _⟩ => show 128 * b + 1 * (y 0).val = _; simp
    | ⟨1, _⟩ => show 128 * q + 1 * (y 1).val = _; simp
  · congr 1
    funext a
    apply Fin.ext
    show (offG i (BitVec.ofNat 32 b) q) a + 1 * 0 = _
    rw [offG_eq i b q hb]
    match a with
    | ⟨0, _⟩ => show 2 * (i 1).val + b + 1 * 0 = 2 * (i 1).val + (128 * b + (y 0).val) / 128; omega
    | ⟨1, _⟩ => show q + 1 * 0 = (128 * q + (y 1).val) / 128; omega

/-- A store of the gate's widened weights is the piece of `wbOf` at its place. -/
theorem wgate {arg : Memref sig .tc .vmem S256x4096 .fp8e4m3} (harg : arg.IsWhole) {args : Memref sig .tc .smem S56x32 .f32} (hargs : args.IsWhole)
    (x x' : Vec F S256x4096 .fp8e4m3) (s s' : Vec F S56x32 .f32) (i : grid0.Coords) (b q o0 o1 : ℕ)
    (h1 : ∀ a, offG i (BitVec.ofNat 32 b) q a + S1x1.size a ≤ S56x32.size a)
    (h2 : ∀ a, (![o0, o1] : Fin 2 → ℕ) a + S128x128.size a ≤ S256x4096.size a)
    (hp : 0 < S1x1.numel)
    (hb : b < 2) (hq : q < 32) (ho0 : o0 = 128 * b) (ho1 : o1 = 128 * q) (y : S128x128.Idx)
    (z : S512x4096.Idx) (hz0 : (z 0).val = o0 + 1 * (y 0).val) (hz1 : (z 1).val = o1 + 1 * (y 1).val) :
    k0_pay40 (View.readAt (Elt F) args.view (Rect.unit (s := S56x32) (offG i (BitVec.ofNat 32 b) q) S1x1.size h1).toLoadRect (hargs.unread s) (Shape.Idx.first hp))
      (View.readAt (Elt F) arg.view (Rect.unit (s := S256x4096) ![o0, o1] S128x128.size h2).toLoadRect (harg.unread x)) y
      = wbOf (i 1) x x' s s' z := by
  rw [wpiece harg hargs x s i b q o0 o1 hb hq ho0 ho1 h1 h2 hp y]
  have hy0 : (y 0).val < 128 := (y 0).isLt
  have e0 : (z 0).val = 128 * b + (y 0).val := by omega
  have e1 : (z 1).val = 128 * q + (y 1).val := by omega
  unfold wbOf
  rw [dif_pos (by rw [e0]; omega)]
  congr 1 <;> apply Fin.ext
  · exact e0.symm
  · exact e1.symm

/-- A store of the up projection's widened weights is the piece of `wbOf` at its place. -/
theorem wup {arg : Memref sig .tc .vmem S256x4096 .fp8e4m3} (harg : arg.IsWhole) {args : Memref sig .tc .smem S56x32 .f32} (hargs : args.IsWhole)
    (x x' : Vec F S256x4096 .fp8e4m3) (s s' : Vec F S56x32 .f32) (i : grid0.Coords) (b q o0 o1 o2 : ℕ)
    (h1 : ∀ a, offG i (BitVec.ofNat 32 b) q a + S1x1.size a ≤ S56x32.size a)
    (h2 : ∀ a, (![o0, o1] : Fin 2 → ℕ) a + S128x128.size a ≤ S256x4096.size a)
    (hp : 0 < S1x1.numel)
    (hb : b < 2) (hq : q < 32) (ho0 : o0 = 128 * b) (ho1 : o1 = 128 * q) (ho2 : o2 = 256 + 128 * b) (y : S128x128.Idx)
    (z : S512x4096.Idx) (hz0 : (z 0).val = o2 + 1 * (y 0).val) (hz1 : (z 1).val = o1 + 1 * (y 1).val) :
    k0_pay40 (View.readAt (Elt F) args.view (Rect.unit (s := S56x32) (offG i (BitVec.ofNat 32 b) q) S1x1.size h1).toLoadRect (hargs.unread s') (Shape.Idx.first hp))
      (View.readAt (Elt F) arg.view (Rect.unit (s := S256x4096) ![o0, o1] S128x128.size h2).toLoadRect (harg.unread x')) y
      = wbOf (i 1) x x' s s' z := by
  rw [wpiece harg hargs x' s' i b q o0 o1 hb hq ho0 ho1 h1 h2 hp y]
  have e0 : (z 0).val = 256 + (128 * b + (y 0).val) := by omega
  have e1 : (z 1).val = 128 * q + (y 1).val := by omega
  unfold wbOf
  rw [dif_neg (by rw [e0]; omega)]
  congr 1 <;> apply Fin.ext
  · show 128 * b + (y 0).val = _ - 256
    rw [e0]; omega
  · exact e1.symm

/-! ## What the block's product is made into -/

/-- The products of one block: the gate's activation times the up projection. -/
def hOf (xb : Vec F S1024x4096 .bf16) (wb : Vec F S512x4096 .bf16) : FVec F S1024x256 .f32 :=
  k0_pay213 (k0_pay211 xb wb) (k0_pay212 xb wb)

/-- The block's codes, two groups of 128 columns. -/
def codesOf (xb : Vec F S1024x4096 .bf16) (wb : Vec F S512x4096 .bf16) : Vec F S1024x256 .fp8e4m3 := fun y =>
  if h : (y 1).val < 128 then
    k0_pay219 (Scalar.ofBits .f32 0x43E00000#32) (k0_pay218 (k0_pay211 xb wb) (k0_pay212 xb wb))
      (ix2 (n0 := 1024) (n1 := 128) ⟨(y 0).val, (y 0).isLt⟩ ⟨(y 1).val, h⟩)
  else
    k0_pay224 (k0_pay221 (hOf xb wb)) (k0_pay222 (hOf xb wb))
      (ix2 (n0 := 1024) (n1 := 128) ⟨(y 0).val, (y 0).isLt⟩ ⟨(y 1).val - 128, by have : (y 1).val < 256 := (y 1).isLt; omega⟩)

/-- The scales of the block's first group, one a row, and of its second. -/
def scl0 (xb : Vec F S1024x4096 .bf16) (wb : Vec F S512x4096 .bf16) : FVec F S1024x1 .f32 :=
  k0_pay217 (k0_pay211 xb wb) (k0_pay212 xb wb)
def scl1 (xb : Vec F S1024x4096 .bf16) (wb : Vec F S512x4096 .bf16) : FVec F S1024x1 .f32 :=
  k0_pay223 (hOf xb wb)

/-- The scales' buffer with the point's two columns written. -/
def updOf (j : Fin 28) (o : Vec F S1024x56 .f32) (s0 s1 : FVec F S1024x1 .f32) : Vec F S1024x56 .f32 := fun y =>
  if (y 1).val = 2 * j.val + 1 then s1 (ix2 (n0 := 1024) (n1 := 1) ⟨(y 0).val, (y 0).isLt⟩ 0)
  else if (y 1).val = 2 * j.val then s0 (ix2 (n0 := 1024) (n1 := 1) ⟨(y 0).val, (y 0).isLt⟩ 0)
  else o y

end Cert.KernelIdeal.Run

end
-- ==== Proof.KI.Out.lean ====
/-
  The block of codes and the buffer of scales, from the stores the kernel's body makes into them.
-/
module

public import proofs.«01_k».proof.Proof.KI.Block

@[expose] public section

set_option maxRecDepth 16384

noncomputable section

namespace Cert.KernelIdeal.Run

open Cert.KernelIdeal.Gen
open Idealize.ShloMosaic Idealize.ShloMosaic.TcCoe Idealize.ShloMosaic.Tactic
open Idealize.ShloMosaic.View (canon)

variable {F : FTy → Type} [FloatOps F]

variable (c : Dev nD) (i : grid0.Coords)
  (arg2 : Memref sig .tc .vmem S1024x4096 .fp8e4m3) (harg2 : arg2.IsWhole) (arg3 : Memref sig .tc .vmem S1024x32 .f32) (harg3 : arg3.IsWhole)
  (arg4 : Memref sig .tc .vmem S256x4096 .fp8e4m3) (harg4 : arg4.IsWhole) (arg5 : Memref sig .tc .vmem S256x4096 .fp8e4m3) (harg5 : arg5.IsWhole)
  (arg6 : Memref sig .tc .smem S56x32 .f32) (harg6 : arg6.IsWhole) (arg7 : Memref sig .tc .smem S56x32 .f32) (harg7 : arg7.IsWhole)
  (arg8 : Memref sig .tc .vmem S1024x256 .fp8e4m3) (harg8 : arg8.IsWhole) (arg9 : Memref sig .tc .vmem S1024x56 .f32) (harg9 : arg9.IsWhole)
  (arg10 : Memref sig .tc .vmem S1024x4096 .bf16) (harg10 : arg10.IsWhole) (arg11 : Memref sig .tc .vmem S512x4096 .bf16) (harg11 : arg11.IsWhole)
  (x0 : Vec F S1024x4096 .fp8e4m3) (x1 : Vec F S1024x32 .f32)
  (x2 : Vec F S256x4096 .fp8e4m3) (x3 : Vec F S256x4096 .fp8e4m3) (x4 : Vec F S56x32 .f32) (x5 : Vec F S56x32 .f32)

omit [FloatOps F] in
/-- A load of a whole buffer reads its contents. -/
theorem load_x {a : Memref sig .tc .vmem S1024x4096 .bf16} (ha : a.IsWhole) (x : Vec F S1024x4096 .bf16)
    (h : ∀ k, (![0, 0] : Fin 2 → ℕ) k + (![1024, 4096] : Fin 2 → ℕ) k ≤ S1024x4096.size k) :
    View.readAt (Elt F) a.view (Rect.unit (s := S1024x4096) ![0, 0] ![1024, 4096] h).toLoadRect (ha.unread x) = x := by
  funext j
  rw [View.readAt_apply, ha.read_unread]
  congr 1
  funext k
  apply Fin.ext
  match k with
  | ⟨0, _⟩ => show 0 + 1 * (j 0).val = _; simp
  | ⟨1, _⟩ => show 0 + 1 * (j 1).val = _; simp

omit [FloatOps F] in
theorem load_s {a : Memref sig .tc .vmem S1024x56 .f32} (ha : a.IsWhole) (x : Vec F S1024x56 .f32)
    (h : ∀ k, (![0, 0] : Fin 2 → ℕ) k + (![1024, 56] : Fin 2 → ℕ) k ≤ S1024x56.size k) :
    View.readAt (Elt F) a.view (Rect.unit (s := S1024x56) ![0, 0] ![1024, 56] h).toLoadRect (ha.unread x) = x := by
  funext j
  rw [View.readAt_apply, ha.read_unread]
  congr 1
  funext k
  apply Fin.ext
  match k with
  | ⟨0, _⟩ => show 0 + 1 * (j 0).val = _; simp
  | ⟨1, _⟩ => show 0 + 1 * (j 1).val = _; simp

/-- The two stores into the codes' buffer. -/
def codesL (xb : Vec F S1024x4096 .bf16) (wb : Vec F S512x4096 .bf16) : List (View.Piece (Elt F) S1024x256 .fp8e4m3) :=
  [⟨Rect.unit (s := S1024x256) ![0, 128] S1024x128.size inb_S1024x256_S1024x128_0_128, k0_pay224 (k0_pay221 (hOf xb wb)) (k0_pay222 (hOf xb wb))⟩,
   ⟨Rect.unit (s := S1024x256) ![0, 0] S1024x128.size inb_S1024x256_S1024x128_0_0, k0_pay219 (Scalar.ofBits .f32 0x43E00000#32) (k0_pay218 (k0_pay211 xb wb) (k0_pay212 xb wb))⟩]

theorem codesL_cover (xb : Vec F S1024x4096 .bf16) (wb : Vec F S512x4096 .bf16) : ∀ y, ∃ p ∈ codesL xb wb, y ∈ p.1.set :=
  View.cover_of_tiled _ S1024x128.size (by rfl)

theorem codesL_canon (xb : Vec F S1024x4096 .bf16) (wb : Vec F S512x4096 .bf16) : canon (codesL xb wb) = codesOf xb wb := by
  funext y
  refine View.canon_apply_of_pieces _ _ ?_ y (codesL_cover xb wb y)
  refine List.forall_mem_cons.2 ⟨fun x => ?_, List.forall_mem_cons.2 ⟨fun x => ?_, fun p hp => absurd hp List.not_mem_nil⟩⟩
  · have h1 : (x 1).val < 128 := (x 1).isLt
    have e : (((Rect.unit (s := S1024x256) ![0, 128] S1024x128.size inb_S1024x256_S1024x128_0_128).emb x) 1).val = 128 + 1 * (x 1).val := rfl
    show k0_pay224 _ _ x = codesOf xb wb _
    unfold codesOf
    rw [dif_neg (by rw [e]; omega)]
    congr 1
    funext k
    apply Fin.ext
    match k with
    | ⟨0, _⟩ => show _ = 0 + 1 * (x 0).val; simp
    | ⟨1, _⟩ => show (x 1).val = 128 + 1 * (x 1).val - 128; omega
  · have h1 : (x 1).val < 128 := (x 1).isLt
    have e : (((Rect.unit (s := S1024x256) ![0, 0] S1024x128.size inb_S1024x256_S1024x128_0_0).emb x) 1).val = 0 + 1 * (x 1).val := rfl
    show k0_pay219 _ _ x = codesOf xb wb _
    unfold codesOf
    rw [dif_pos (by rw [e]; omega)]
    congr 1
    funext k
    apply Fin.ext
    match k with
    | ⟨0, _⟩ => show _ = 0 + 1 * (x 0).val; simp
    | ⟨1, _⟩ => show (x 1).val = 0 + 1 * (x 1).val; omega

/-- The store into the scales' buffer. -/
def sclL (j : Fin 28) (o : Vec F S1024x56 .f32) (s0 s1 : FVec F S1024x1 .f32) : List (View.Piece (Elt F) S1024x56 .f32) :=
  [⟨Rect.unit (s := S1024x56) ![0, 0] S1024x56.size inb_S1024x56_S1024x56_0_0,
    k0_pay1 (BitVec.ofNat 32 j.val) (iota .tc S1024x56 32 [1] iota_S1024x56_d1_w32)
      (k0_pay220 (BitVec.ofNat 32 j.val) (iota .tc S1024x56 32 [1] iota_S1024x56_d1_w32) (k0_pay214 o) s0) s1⟩]

theorem sclL_cover (j : Fin 28) (o : Vec F S1024x56 .f32) (s0 s1 : FVec F S1024x1 .f32) : ∀ y, ∃ p ∈ sclL j o s0 s1, y ∈ p.1.set :=
  View.cover_of_tiled _ S1024x56.size (by rfl)

/-- Comparing a lane's number with the one written. -/
theorem lane_eq (j : Fin 28) (r : ℕ) (hr : r < 2) (l : ℕ) (hl : l < 56) :
    (BitVec.ofNat 32 l = BitVec.ofNat 32 j.val * 2#32 + BitVec.ofNat 32 r) ↔ l = 2 * j.val + r := by
  have hj := j.isLt
  rw [← BitVec.toNat_inj]
  simp [BitVec.toNat_add, BitVec.toNat_mul]
  omega

theorem pay220_apply (j : Fin 28) (r : ℕ) (hr : r < 2) (o : FVec F S1024x56 .f32) (s : FVec F S1024x1 .f32) (y : S1024x56.Idx)
    (f : BitVec 32 → FVec F S1024x56 .f32)
    (hf : f = fun v => select (cmpi .eq (iota .tc S1024x56 32 [1] iota_S1024x56_d1_w32) (broadcast S1024x56 v))
      (broadcastTo S1024x56 (shapeCast S1024x1 s shapeCasts_S1024x1_S1024x1) broadcasts_S1024x1_S1024x56) o) :
    f (Scalar.addi (Scalar.muli (BitVec.ofNat 32 j.val) 2#32) (BitVec.ofNat 32 r)) y
      = if (y 1).val = 2 * j.val + r then s (ix2 (n0 := 1024) (n1 := 1) ⟨(y 0).val, (y 0).isLt⟩ 0) else o y := by
  have hy : (y 1).val < 56 := (y 1).isLt
  subst hf
  have hi : iota .tc S1024x56 32 [1] iota_S1024x56_d1_w32 y = BitVec.ofNat 32 (y 1).val := by pointwise
  show Scalar.select (IntOp.cmpi .eq (iota .tc S1024x56 32 [1] iota_S1024x56_d1_w32 y) (BitVec.ofNat 32 j.val * 2#32 + BitVec.ofNat 32 r))
    (broadcastTo S1024x56 (shapeCast S1024x1 s shapeCasts_S1024x1_S1024x1) broadcasts_S1024x1_S1024x56 y) (o y) = _
  rw [hi, show ∀ a b : BitVec 32, IntOp.cmpi .eq a b = BitVec.ofBool (decide (a = b)) from fun a b => by simp only [IntOp.cmpi, beq_eq_decide]]
  have hl := lane_eq j r hr (y 1).val hy
  by_cases h : (y 1).val = 2 * j.val + r
  · rw [if_pos h, decide_eq_true (hl.2 h)]
    show broadcastTo S1024x56 (shapeCast S1024x1 s shapeCasts_S1024x1_S1024x1) broadcasts_S1024x1_S1024x56 y = _
    rw [shapeCast_self, broadcastTo_apply _ _ y (ix2 (n0 := 1024) (n1 := 1) ⟨(y 0).val, (y 0).isLt⟩ 0)]
    intro a
    match a with
    | ⟨0, _⟩ => show (y 0).val = _; simp
    | ⟨1, _⟩ => show 0 = _; simp
  · rw [if_neg h, decide_eq_false (fun e => h (hl.1 e))]
    rfl

theorem sclL_canon (j : Fin 28) (o : Vec F S1024x56 .f32) (s0 s1 : FVec F S1024x1 .f32) : canon (sclL j o s0 s1) = updOf j o s0 s1 := by
  funext y
  refine View.canon_apply_of_pieces _ _ ?_ y (sclL_cover j o s0 s1 y)
  refine List.forall_mem_cons.2 ⟨fun x => ?_, fun p hp => absurd hp List.not_mem_nil⟩
  have ex : (Rect.unit (s := S1024x56) ![0, 0] S1024x56.size inb_S1024x56_S1024x56_0_0).emb x = x := by
    funext k
    apply Fin.ext
    match k with
    | ⟨0, _⟩ => show 0 + 1 * (x 0).val = _; simp
    | ⟨1, _⟩ => show 0 + 1 * (x 1).val = _; simp
  show k0_pay1 _ _ _ _ x = updOf j o s0 s1 _
  rw [ex]
  refine (pay220_apply j 1 (by omega) _ s1 x (fun v => select (cmpi .eq (iota .tc S1024x56 32 [1] iota_S1024x56_d1_w32) (broadcast S1024x56 v))
      (broadcastTo S1024x56 (shapeCast S1024x1 s1 shapeCasts_S1024x1_S1024x1) broadcasts_S1024x1_S1024x56) (k0_pay220 (BitVec.ofNat 32 j.val) (iota .tc S1024x56 32 [1] iota_S1024x56_d1_w32) (k0_pay214 o) s0)) rfl).trans ?_
  unfold updOf
  congr 1
  refine (pay220_apply j 0 (by omega) _ s0 x (fun v => select (cmpi .eq (iota .tc S1024x56 32 [1] iota_S1024x56_d1_w32) (broadcast S1024x56 v))
      (broadcastTo S1024x56 (shapeCast S1024x1 s0 shapeCasts_S1024x1_S1024x1) broadcasts_S1024x1_S1024x56) (k0_pay214 o)) rfl).trans ?_
  unfold k0_pay214
  rw [shapeCast_self, Nat.add_zero]

end Cert.KernelIdeal.Run

end
-- ==== Proof.KI.Data.lean ====
/-
  The blocks the kernel reads at a grid point, as elements of its arrays; what each point computes; and what the carried buffers
  hold between points: the widened activations of the current row of blocks, and the scales of the points already run.
-/
module

public import proofs.«01_k».proof.Proof.KI.Out
public import Idealize.ShloMosaic.Lib.Claim

@[expose] public section

set_option maxRecDepth 16384

noncomputable section

namespace Cert.KernelIdeal.Run

open Cert.KernelIdeal.Gen
open Idealize.ShloMosaic Idealize.ShloMosaic.TcCoe Idealize.ShloMosaic.Tactic
open Idealize.ShloMosaic.Pipeline (Dat Cfg Window)

variable {F : FTy → Type} [FloatOps F]

variable (m : (ℓ : Loc nD τ sig) → Buf (Elt F) ℓ) (c : Dev nD)

theorem lt168 (t : Fin cfg0.N) : t.val < 168 := lt_of_lt_of_eq t.isLt (show cfg0.N = 168 from N_0)

/-- Which block of its array each window stands on at a point. -/
theorem idx (t : Fin cfg0.N) : win0_0.index t = ![t.val / 28, 0] ∧ win0_1.index t = ![t.val / 28, 0]
    ∧ win0_2.index t = ![t.val % 28, 0] ∧ win0_3.index t = ![t.val % 28, 0]
    ∧ win0_4.index t = ![0, 0] ∧ win0_5.index t = ![0, 0]
    ∧ win0_6.index t = ![t.val / 28, t.val % 28] ∧ win0_7.index t = ![t.val / 28, 0] := by
  have h : ∀ t : Fin grid0.N, win0_0.index t = ![t.val / 28, 0] ∧ win0_1.index t = ![t.val / 28, 0]
    ∧ win0_2.index t = ![t.val % 28, 0] ∧ win0_3.index t = ![t.val % 28, 0]
    ∧ win0_4.index t = ![0, 0] ∧ win0_5.index t = ![0, 0]
    ∧ win0_6.index t = ![t.val / 28, t.val % 28] ∧ win0_7.index t = ![t.val / 28, 0] := by decide +kernel
  exact h t

theorem coord1 (t : Fin cfg0.N) : (grid0.coords t 1).val = t.val % 28 := by
  have h : ∀ t : Fin grid0.N, (grid0.coords t 1).val = t.val % 28 := by decide +kernel
  exact h t

theorem iblk0_apply (t : Fin cfg0.N) (y : S1024x4096.Idx) : iblk m c 0 t y
    = V m c main_v0 (ix2 (n0 := 6144) (n1 := 4096) ⟨1024 * (t.val / 28) + (y 0).val, by have := lt168 t; have : (y 0).val < 1024 := (y 0).isLt; omega⟩ ⟨(y 1).val, (y 1).isLt⟩) := by
  have := lt168 t
  blk_ext [iblk, idx t]
theorem iblk1_apply (t : Fin cfg0.N) (y : S1024x32.Idx) : iblk m c 1 t y
    = V m c main_v1 (ix2 (n0 := 6144) (n1 := 32) ⟨1024 * (t.val / 28) + (y 0).val, by have := lt168 t; have : (y 0).val < 1024 := (y 0).isLt; omega⟩ ⟨(y 1).val, (y 1).isLt⟩) := by
  have := lt168 t
  blk_ext [iblk, idx t]
theorem iblk2_apply (t : Fin cfg0.N) (y : S256x4096.Idx) : iblk m c 2 t y
    = V m c main_arg2 (ix2 (n0 := 7168) (n1 := 4096) ⟨256 * (t.val % 28) + (y 0).val, by have : (y 0).val < 256 := (y 0).isLt; omega⟩ ⟨(y 1).val, (y 1).isLt⟩) := by
  have := lt168 t
  blk_ext [iblk, idx t]
theorem iblk3_apply (t : Fin cfg0.N) (y : S256x4096.Idx) : iblk m c 3 t y
    = V m c main_arg4 (ix2 (n0 := 7168) (n1 := 4096) ⟨256 * (t.val % 28) + (y 0).val, by have : (y 0).val < 256 := (y 0).isLt; omega⟩ ⟨(y 1).val, (y 1).isLt⟩) := by
  have := lt168 t
  blk_ext [iblk, idx t]
theorem iblk4_apply (t : Fin cfg0.N) (y : S56x32.Idx) : iblk m c 4 t y = V m c main_arg3 (ix2 (n0 := 56) (n1 := 32) ⟨(y 0).val, (y 0).isLt⟩ ⟨(y 1).val, (y 1).isLt⟩) := by
  blk_ext [iblk, idx t]
theorem iblk5_apply (t : Fin cfg0.N) (y : S56x32.Idx) : iblk m c 5 t y = V m c main_arg5 (ix2 (n0 := 56) (n1 := 32) ⟨(y 0).val, (y 0).isLt⟩ ⟨(y 1).val, (y 1).isLt⟩) := by
  blk_ext [iblk, idx t]

/-- The widened activations and weights of a point. -/
def XB (t : Fin cfg0.N) : Vec F S1024x4096 .bf16 := xbOf (iblk m c 0 t) (iblk m c 1 t)
def WB (t : Fin cfg0.N) : Vec F S512x4096 .bf16 := wbOf (grid0.coords t 1) (iblk m c 2 t) (iblk m c 3 t) (iblk m c 4 t) (iblk m c 5 t)

/-- The activations depend on the row of blocks alone. -/
theorem XB_congr {t u : Fin cfg0.N} (h : t.val / 28 = u.val / 28) : XB m c t = XB m c u := by
  have h0 : (iblk m c 0 t : Vec F S1024x4096 .fp8e4m3) = iblk m c 0 u := funext fun y =>
    (iblk0_apply m c t y).trans ((congrArg (V m c main_v0) (by congr 1; exact Fin.ext (by show 1024 * (t.val / 28) + _ = 1024 * (u.val / 28) + _; rw [h]))).trans (iblk0_apply m c u y).symm)
  have h1 : (iblk m c 1 t : Vec F S1024x32 .f32) = iblk m c 1 u := funext fun y =>
    (iblk1_apply m c t y).trans ((congrArg (V m c main_v1) (by congr 1; exact Fin.ext (by show 1024 * (t.val / 28) + _ = 1024 * (u.val / 28) + _; rw [h]))).trans (iblk1_apply m c u y).symm)
  exact congrArg₂ xbOf h0 h1

/-- The codes a point writes, and the scales of its two groups. -/
def codesAt (t : Fin cfg0.N) : Vec F S1024x256 .fp8e4m3 := codesOf (XB m c t) (WB m c t)
def sclAt0 (t : Fin cfg0.N) : FVec F S1024x1 .f32 := scl0 (XB m c t) (WB m c t)
def sclAt1 (t : Fin cfg0.N) : FVec F S1024x1 .f32 := scl1 (XB m c t) (WB m c t)

/-- The scales' buffer after point `t`: the columns of the points of the row of blocks run so far. -/
def sclSpec (t : Fin cfg0.N) (X : Vec F S1024x56 .f32) : Prop :=
  ∀ (u : Fin cfg0.N), u.val / 28 = t.val / 28 → u.val ≤ t.val → ∀ y : S1024x56.Idx,
    ((y 1).val = 2 * (u.val % 28) → X y = sclAt0 m c u (ix2 (n0 := 1024) (n1 := 1) ⟨(y 0).val, (y 0).isLt⟩ 0))
    ∧ ((y 1).val = 2 * (u.val % 28) + 1 → X y = sclAt1 m c u (ix2 (n0 := 1024) (n1 := 1) ⟨(y 0).val, (y 0).isLt⟩ 0))

/-- A point adds its two columns. -/
theorem sclSpec_step (t : Fin cfg0.N) (o : Vec F S1024x56 .f32)
    (h : t.val % 28 ≠ 0 → ∀ s : Fin cfg0.N, s.val + 1 = t.val → sclSpec m c s o) :
    sclSpec m c t (updOf (grid0.coords t 1) o (sclAt0 m c t) (sclAt1 m c t)) := by
  intro u hu hle y
  have e : (grid0.coords t 1).val = t.val % 28 := coord1 t
  by_cases hut : u = t
  · subst hut
    unfold updOf
    rw [e]
    refine ⟨fun hy => ?_, fun hy => ?_⟩
    · rw [if_neg (by omega), if_pos hy]
    · rw [if_pos hy]
  · have hlt : u.val < t.val := lt_of_le_of_ne hle fun k => hut (Fin.ext k)
    have hu' := lt168 u
    have ht' := lt168 t
    obtain ⟨h0, h1⟩ := h (by omega) ⟨t.val - 1, by have := t.isLt; omega⟩ (by show t.val - 1 + 1 = _; omega) u (by show _ = (t.val - 1) / 28; omega) (by show _ ≤ t.val - 1; omega) y
    unfold updOf
    rw [e]
    refine ⟨fun hy => ?_, fun hy => ?_⟩
    · rw [if_neg (by omega), if_neg (by omega)]; exact h0 hy
    · rw [if_neg (by omega), if_neg (by omega)]; exact h1 hy

end Cert.KernelIdeal.Run

end
-- ==== Proof.KI.RunA.lean ====
/-
  The kernel's body run once at a first point of a row of blocks (the scratch of widened activations is filled): what it
  stores into each buffer, as the list of its stores.
-/
module

public import proofs.«01_k».proof.Proof.KI.Runs

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body's triple at a first point of a row of blocks (the scratch of widened activations is filled):
    the inputs are handed back as they were, the codes' buffer holds the stores `L6`, the scales' buffer, found holding `o`,
    the stores `L7`, the widened activations' scratch the stores `Lx`. -/
def runA (c : Dev nD) (i : grid0.Coords) (arg2 : Memref sig .tc .vmem S1024x4096 .fp8e4m3) (harg2 : arg2.IsWhole) (arg3 : Memref sig .tc .vmem S1024x32 .f32) (harg3 : arg3.IsWhole) (arg4 : Memref sig .tc .vmem S256x4096 .fp8e4m3) (harg4 : arg4.IsWhole) (arg5 : Memref sig .tc .vmem S256x4096 .fp8e4m3) (harg5 : arg5.IsWhole) (arg6 : Memref sig .tc .smem S56x32 .f32) (harg6 : arg6.IsWhole) (arg7 : Memref sig .tc .smem S56x32 .f32) (harg7 : arg7.IsWhole) (arg8 : Memref sig .tc .vmem S1024x256 .fp8e4m3) (harg8 : arg8.IsWhole) (arg9 : Memref sig .tc .vmem S1024x56 .f32) (harg9 : arg9.IsWhole) (arg10 : Memref sig .tc .vmem S1024x4096 .bf16) (harg10 : arg10.IsWhole) (arg11 : Memref sig .tc .vmem S512x4096 .bf16) (harg11 : arg11.IsWhole) (hc0 : cond0_0 i)
    (x0 : Vec F S1024x4096 .fp8e4m3) (x1 : Vec F S1024x32 .f32) (x2 : Vec F S256x4096 .fp8e4m3) (x3 : Vec F S256x4096 .fp8e4m3) (x4 : Vec F S56x32 .f32) (x5 : Vec F S56x32 .f32)
    (o : Vec F S1024x56 .f32) :
    Σ' (L6 : List (View.Piece (Elt F) S1024x256 .fp8e4m3)) (Lx : List (View.Piece (Elt F) S1024x4096 .bf16)),
      { L7 : List (View.Piece (Elt F) S1024x56 .f32) // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare o ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f Lx) ∗ (∃ d, owns (c : Thread nD τ) arg11 fullShare d)) -∗ K ⟨⟩))
          ⊢ wp frame (wpE (defs₀ (F := F)) Variants.none c none) E (cc0_gate_up_swiglu i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_gate_up_swiglu_eq_skeleton]; unfold cc0_gate_up_swiglu_skel
    simp only [k0_part55_eq_skeleton, k0_part10_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists f6; iexact H6
    isplitl [H7]
    · iexists (harg9.unread o); iexact H7
    isplitl [HS0]
    · iexists fs0; iexact HS0
    iexists _, _; isplitr; swap; · iexact HS1
    ipureintro; rfl

end Cert.KernelIdeal.Run

end
-- ==== Proof.KI.LeftA.lean ====
/-
  The kernel's body leaves the widened operands of the block in its scratch buffers (first point of a row of blocks).
-/
module

public import proofs.«01_k».proof.Proof.KI.RunA
public import proofs.«01_k».proof.Proof.KI.Block

@[expose] public section

set_option maxRecDepth 16384

noncomputable section

namespace Cert.KernelIdeal.Run

open Cert.KernelIdeal.Gen
open Idealize.ShloMosaic Idealize.ShloMosaic.TcCoe Idealize.ShloMosaic.Tactic
open Idealize.ShloMosaic.View (canon)

variable {F : FTy → Type} [FloatOps F]

variable (c : Dev nD) (i : grid0.Coords)
  (arg2 : Memref sig .tc .vmem S1024x4096 .fp8e4m3) (harg2 : arg2.IsWhole) (arg3 : Memref sig .tc .vmem S1024x32 .f32) (harg3 : arg3.IsWhole)
  (arg4 : Memref sig .tc .vmem S256x4096 .fp8e4m3) (harg4 : arg4.IsWhole) (arg5 : Memref sig .tc .vmem S256x4096 .fp8e4m3) (harg5 : arg5.IsWhole)
  (arg6 : Memref sig .tc .smem S56x32 .f32) (harg6 : arg6.IsWhole) (arg7 : Memref sig .tc .smem S56x32 .f32) (harg7 : arg7.IsWhole)
  (arg8 : Memref sig .tc .vmem S1024x256 .fp8e4m3) (harg8 : arg8.IsWhole) (arg9 : Memref sig .tc .vmem S1024x56 .f32) (harg9 : arg9.IsWhole)
  (arg10 : Memref sig .tc .vmem S1024x4096 .bf16) (harg10 : arg10.IsWhole) (arg11 : Memref sig .tc .vmem S512x4096 .bf16) (harg11 : arg11.IsWhole)
  (x0 : Vec F S1024x4096 .fp8e4m3) (x1 : Vec F S1024x32 .f32)
  (x2 : Vec F S256x4096 .fp8e4m3) (x3 : Vec F S256x4096 .fp8e4m3) (x4 : Vec F S56x32 .f32) (x5 : Vec F S56x32 .f32)

set_option maxHeartbeats 4000000 in
/-- Each store into the weights' scratch is the piece of `wbOf` at its place. -/
theorem runA_wpieces : ∀ p ∈ runA.sl.HS1_128 c i arg4 harg4 arg5 harg5 arg6 harg6 arg7 harg7 x2 x3 x4 x5,
    ∀ y, p.2 y = wbOf (i 1) x2 x3 x4 x5 (p.1.emb y) := by
  sl_unfold_run_names
  iterate 64 refine List.forall_mem_cons.2 ⟨fun y => wup harg5 harg7 x2 x3 x4 x5 i _ _ _ _ _ _ _ _ (by omega) (by omega) (by rfl) (by rfl) (by rfl) y _ rfl rfl, ?_⟩
  iterate 64 refine List.forall_mem_cons.2 ⟨fun y => wgate harg4 harg6 x2 x3 x4 x5 i _ _ _ _ _ _ _ (by omega) (by omega) (by rfl) (by rfl) y _ rfl rfl, ?_⟩
  exact fun p hp => absurd hp List.not_mem_nil

set_option maxHeartbeats 4000000 in
/-- The stores cover the scratch. -/
theorem runA_wcover : ∀ y, ∃ p ∈ runA.sl.HS1_128 c i arg4 harg4 arg5 harg5 arg6 harg6 arg7 harg7 x2 x3 x4 x5, y ∈ p.1.set := by
  sl_unfold_run_names
  exact View.cover_of_tiled _ S128x128.size (by rfl)

/-- The weights as the product reads them. -/
theorem runA_v1540 : runA.sl.v1540 c i arg4 harg4 arg5 harg5 arg6 harg6 arg7 harg7 arg11 x2 x3 x4 x5 = wbOf (i 1) x2 x3 x4 x5 := by
  unfold runA.sl.v1540
  rw [View.readCov_eq_canon']
  funext j
  refine (View.canon_apply_of_pieces _ _ (runA_wpieces c i arg4 harg4 arg5 harg5 arg6 harg6 arg7 harg7 x2 x3 x4 x5) _
    (runA_wcover c i arg4 harg4 arg5 harg5 arg6 harg6 arg7 harg7 x2 x3 x4 x5 _)).trans ?_
  congr 1
  funext a
  apply Fin.ext
  match a with
  | ⟨0, _⟩ => show 0 + 1 * (j 0).val = _; simp
  | ⟨1, _⟩ => show 0 + 1 * (j 1).val = _; simp

set_option maxHeartbeats 4000000 in
/-- Each store into the activations' scratch is the piece of `xbOf` at its place. -/
theorem runA_xpieces : ∀ p ∈ runA.sl.HS0_32 c arg2 harg2 arg3 harg3 x0 x1, ∀ y, p.2 y = xbOf x0 x1 (p.1.emb y) := by
  sl_unfold_run_names
  iterate 32 refine List.forall_mem_cons.2 ⟨fun y => xpiece harg2 harg3 x0 x1 _ _ _ _ (by rfl) y _ rfl, ?_⟩
  exact fun p hp => absurd hp List.not_mem_nil

set_option maxHeartbeats 4000000 in
/-- The stores cover the scratch. -/
theorem runA_xcover : ∀ y, ∃ p ∈ runA.sl.HS0_32 c arg2 harg2 arg3 harg3 x0 x1, y ∈ p.1.set := by
  sl_unfold_run_names
  exact View.cover_of_tiled _ S1024x128.size (by rfl)

/-- What the stores into the activations' scratch leave. -/
theorem runA_xcanon : canon (runA.sl.HS0_32 c arg2 harg2 arg3 harg3 x0 x1) = xbOf x0 x1 := funext fun y =>
  View.canon_apply_of_pieces _ _ (runA_xpieces c arg2 harg2 arg3 harg3 x0 x1) _ (runA_xcover c arg2 harg2 arg3 harg3 x0 x1 _)

/-- The activations as the product reads them. -/
theorem runA_v1539 : runA.sl.v1539 c arg2 harg2 arg3 harg3 arg10 x0 x1 = xbOf x0 x1 := by
  unfold runA.sl.v1539
  rw [View.readCov_eq_canon', runA_xcanon]
  funext j
  congr 1
  funext a
  apply Fin.ext
  match a with
  | ⟨0, _⟩ => show 0 + 1 * (j 0).val = _; simp
  | ⟨1, _⟩ => show 0 + 1 * (j 1).val = _; simp

end Cert.KernelIdeal.Run

end
-- ==== Proof.KI.OutA.lean ====
/-
  What the kernel's body leaves in its outputs' buffers (first point of a row of blocks).
-/
module

public import proofs.«01_k».proof.Proof.KI.LeftA
public import proofs.«01_k».proof.Proof.KI.Out

@[expose] public section

set_option maxRecDepth 16384

noncomputable section

namespace Cert.KernelIdeal.Run

open Cert.KernelIdeal.Gen
open Idealize.ShloMosaic Idealize.ShloMosaic.TcCoe Idealize.ShloMosaic.Tactic
open Idealize.ShloMosaic.View (canon)

variable {F : FTy → Type} [FloatOps F]

variable (c : Dev nD) (i : grid0.Coords)
  (arg2 : Memref sig .tc .vmem S1024x4096 .fp8e4m3) (harg2 : arg2.IsWhole) (arg3 : Memref sig .tc .vmem S1024x32 .f32) (harg3 : arg3.IsWhole)
  (arg4 : Memref sig .tc .vmem S256x4096 .fp8e4m3) (harg4 : arg4.IsWhole) (arg5 : Memref sig .tc .vmem S256x4096 .fp8e4m3) (harg5 : arg5.IsWhole)
  (arg6 : Memref sig .tc .smem S56x32 .f32) (harg6 : arg6.IsWhole) (arg7 : Memref sig .tc .smem S56x32 .f32) (harg7 : arg7.IsWhole)
  (arg8 : Memref sig .tc .vmem S1024x256 .fp8e4m3) (harg8 : arg8.IsWhole) (arg9 : Memref sig .tc .vmem S1024x56 .f32) (harg9 : arg9.IsWhole)
  (arg10 : Memref sig .tc .vmem S1024x4096 .bf16) (harg10 : arg10.IsWhole) (arg11 : Memref sig .tc .vmem S512x4096 .bf16) (harg11 : arg11.IsWhole)
  (x0 : Vec F S1024x4096 .fp8e4m3) (x1 : Vec F S1024x32 .f32)
  (x2 : Vec F S256x4096 .fp8e4m3) (x3 : Vec F S256x4096 .fp8e4m3) (x4 : Vec F S56x32 .f32) (x5 : Vec F S56x32 .f32)

set_option maxHeartbeats 1000000 in
theorem runA_L6 (hc0 : cond0_0 i) (o : Vec F S1024x56 .f32)  : (runA c i arg2 harg2 arg3 harg3 arg4 harg4 arg5 harg5 arg6 harg6 arg7 harg7 arg8 harg8 arg9 harg9 arg10 harg10 arg11 harg11 hc0 x0 x1 x2 x3 x4 x5 o ).1 = codesL (xbOf x0 x1) (wbOf (i 1) x2 x3 x4 x5) := by
  unfold runA
  dsimp only
  simp only [runA.sl.r_228, runA.sl.r_227, runA.sl.r_226, runA.sl.r_225, runA.sl.r_224, runA.sl.r_223, runA.sl.r_222, runA.sl.r_221, runA.sl.r_220, runA.sl.r_219, runA.sl.r_218, runA_v1539, runA_v1540]
  rfl

set_option maxHeartbeats 1000000 in
theorem runA_L7 (hc0 : cond0_0 i) (o : Vec F S1024x56 .f32)  : (runA c i arg2 harg2 arg3 harg3 arg4 harg4 arg5 harg5 arg6 harg6 arg7 harg7 arg8 harg8 arg9 harg9 arg10 harg10 arg11 harg11 hc0 x0 x1 x2 x3 x4 x5 o ).2.2.1 = sclL (i 1) o (scl0 (xbOf x0 x1) (wbOf (i 1) x2 x3 x4 x5)) (scl1 (xbOf x0 x1) (wbOf (i 1) x2 x3 x4 x5)) := by
  unfold runA
  dsimp only
  simp only [runA.sl.r_228, runA.sl.r_227, runA.sl.r_226, runA.sl.r_225, runA.sl.r_224, runA.sl.r_223, runA.sl.r_222, runA.sl.r_221, runA.sl.r_220, runA.sl.r_219, runA.sl.r_218, runA_v1539, runA_v1540, load_s]
  rfl

theorem runA_Lx (hc0 : cond0_0 i) (o : Vec F S1024x56 .f32)  : (runA c i arg2 harg2 arg3 harg3 arg4 harg4 arg5 harg5 arg6 harg6 arg7 harg7 arg8 harg8 arg9 harg9 arg10 harg10 arg11 harg11 hc0 x0 x1 x2 x3 x4 x5 o ).2.1 = runA.sl.HS0_32 c arg2 harg2 arg3 harg3 x0 x1 := by
  unfold runA
  rfl

end Cert.KernelIdeal.Run

end
-- ==== Proof.KI.StepA.lean ====
/-
  The kernel's body as a step from the contents of its buffers to their contents (first point of a row of blocks).
-/
module

public import proofs.«01_k».proof.Proof.KI.OutA

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg2 : Memref sig .tc .vmem S1024x4096 .fp8e4m3) (harg2 : arg2.IsWhole) (arg3 : Memref sig .tc .vmem S1024x32 .f32) (harg3 : arg3.IsWhole)
  (arg4 : Memref sig .tc .vmem S256x4096 .fp8e4m3) (harg4 : arg4.IsWhole) (arg5 : Memref sig .tc .vmem S256x4096 .fp8e4m3) (harg5 : arg5.IsWhole)
  (arg6 : Memref sig .tc .smem S56x32 .f32) (harg6 : arg6.IsWhole) (arg7 : Memref sig .tc .smem S56x32 .f32) (harg7 : arg7.IsWhole)
  (arg8 : Memref sig .tc .vmem S1024x256 .fp8e4m3) (harg8 : arg8.IsWhole) (arg9 : Memref sig .tc .vmem S1024x56 .f32) (harg9 : arg9.IsWhole)
  (arg10 : Memref sig .tc .vmem S1024x4096 .bf16) (harg10 : arg10.IsWhole) (arg11 : Memref sig .tc .vmem S512x4096 .bf16) (harg11 : arg11.IsWhole)
  (x0 : Vec F S1024x4096 .fp8e4m3) (x1 : Vec F S1024x32 .f32)
  (x2 : Vec F S256x4096 .fp8e4m3) (x3 : Vec F S256x4096 .fp8e4m3) (x4 : Vec F S56x32 .f32) (x5 : Vec F S56x32 .f32)

omit [FloatOps F] in
/-- What a run establishes of its lists of stores holds of lists equal to them. -/
theorem ofSigma3 {α β γ : Type _} {P : α → β → γ → Prop} (S : Σ' (a : α) (b : β), {c : γ // P a b c}) {a : α} {b : β} {c : γ}
    (ha : S.1 = a) (hb : S.2.1 = b) (hc : S.2.2.1 = c) : P a b c := by
  subst ha hb hc; exact S.2.2.2

set_option maxHeartbeats 1600000 in
theorem stepA (hc0 : cond0_0 i) (o : Vec F S1024x56 .f32)  (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare o ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (codesOf (xbOf x0 x1) (wbOf (i 1) x2 x3 x4 x5)) ∗ owns (c : Thread nD τ) arg9 fullShare (updOf (i 1) o (scl0 (xbOf x0 x1) (wbOf (i 1) x2 x3 x4 x5)) (scl1 (xbOf x0 x1) (wbOf (i 1) x2 x3 x4 x5))) ∗ owns (c : Thread nD τ) arg10 fullShare (xbOf x0 x1) ∗ (∃ d, owns (c : Thread nD τ) arg11 fullShare d)) -∗ K ⟨⟩))
      ⊢ wp frame (wpE (defs₀ (F := F)) Variants.none c none) E (cc0_gate_up_swiglu i arg2 harg2 arg3 harg3 arg4 harg4 arg5 harg5 arg6 harg6 arg7 harg7 arg8 harg8 arg9 harg9 arg10 harg10 arg11 harg11) K := by
  have h := ofSigma3 (runA c i arg2 harg2 arg3 harg3 arg4 harg4 arg5 harg5 arg6 harg6 arg7 harg7 arg8 harg8 arg9 harg9 arg10 harg10 arg11 harg11 hc0 x0 x1 x2 x3 x4 x5 o ) (runA_L6 c i arg2 harg2 arg3 harg3 arg4 harg4 arg5 harg5 arg6 harg6 arg7 harg7 arg8 harg8 arg9 harg9 arg10 harg10 arg11 harg11 x0 x1 x2 x3 x4 x5 hc0 o ) (runA_Lx c i arg2 harg2 arg3 harg3 arg4 harg4 arg5 harg5 arg6 harg6 arg7 harg7 arg8 harg8 arg9 harg9 arg10 harg10 arg11 harg11 x0 x1 x2 x3 x4 x5 hc0 o) (runA_L7 c i arg2 harg2 arg3 harg3 arg4 harg4 arg5 harg5 arg6 harg6 arg7 harg7 arg8 harg8 arg9 harg9 arg10 harg10 arg11 harg11 x0 x1 x2 x3 x4 x5 hc0 o ) E K
  beta_reduce at h
  refine BIBase.Entails.trans ?_ h
  iintro ⟨H0, H1, H2, H3, H4, H5, H6, H7, HS0, HS1, Hk⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, H4, H5, ⟨%f6, H6⟩, ⟨%f7, H7⟩, ⟨%fs, HS0⟩, HS1⟩
  iapply Hk
  isplitl [H0]; · iexact H0
  isplitl [H1]; · iexact H1
  isplitl [H2]; · iexact H2
  isplitl [H3]; · iexact H3
  isplitl [H4]; · iexact H4
  isplitl [H5]; · iexact H5
  isplitl [H6]
  · unfold owns
    iexists _
    isplitr; swap
    · iexact H6
    · ipureintro
      exact (View.read_writes_eq_canon _ _ _ (codesL_cover _ _)).trans (codesL_canon _ _)
  isplitl [H7]
  · unfold owns
    iexists _
    isplitr; swap
    · iexact H7
    · ipureintro
      exact (View.read_writes_eq_canon _ _ _ (sclL_cover _ _ _ _)).trans (sclL_canon _ _ _ _)
  isplitl [HS0]
  · unfold owns
    iexists _
    isplitr; swap
    · iexact HS0
    · ipureintro
      exact (View.read_writes_eq_canon _ _ _ (runA_xcover c arg2 harg2 arg3 harg3 x0 x1)).trans (runA_xcanon c arg2 harg2 arg3 harg3 x0 x1)
  iexact HS1

end Cert.KernelIdeal.Run

end
-- ==== Proof.KI.RunB.lean ====
/-
  The kernel's body run once at a later point of a row of blocks (the scratch of widened activations is read as it was left): what it
  stores into each buffer, as the list of its stores.
-/
module

public import proofs.«01_k».proof.Proof.KI.RunA

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body's triple at a later point of a row of blocks (the scratch of widened activations is read as it was left):
    the inputs are handed back as they were, the codes' buffer holds the stores `L6`, the scales' buffer, found holding `o`,
    the stores `L7`. -/
def runB (c : Dev nD) (i : grid0.Coords) (arg2 : Memref sig .tc .vmem S1024x4096 .fp8e4m3) (harg2 : arg2.IsWhole) (arg3 : Memref sig .tc .vmem S1024x32 .f32) (harg3 : arg3.IsWhole) (arg4 : Memref sig .tc .vmem S256x4096 .fp8e4m3) (harg4 : arg4.IsWhole) (arg5 : Memref sig .tc .vmem S256x4096 .fp8e4m3) (harg5 : arg5.IsWhole) (arg6 : Memref sig .tc .smem S56x32 .f32) (harg6 : arg6.IsWhole) (arg7 : Memref sig .tc .smem S56x32 .f32) (harg7 : arg7.IsWhole) (arg8 : Memref sig .tc .vmem S1024x256 .fp8e4m3) (harg8 : arg8.IsWhole) (arg9 : Memref sig .tc .vmem S1024x56 .f32) (harg9 : arg9.IsWhole) (arg10 : Memref sig .tc .vmem S1024x4096 .bf16) (harg10 : arg10.IsWhole) (arg11 : Memref sig .tc .vmem S512x4096 .bf16) (harg11 : arg11.IsWhole) (hc0 : ¬cond0_0 i)
    (x0 : Vec F S1024x4096 .fp8e4m3) (x1 : Vec F S1024x32 .f32) (x2 : Vec F S256x4096 .fp8e4m3) (x3 : Vec F S256x4096 .fp8e4m3) (x4 : Vec F S56x32 .f32) (x5 : Vec F S56x32 .f32)
    (o : Vec F S1024x56 .f32) (b : Vec F S1024x4096 .bf16) :
    Σ' (L6 : List (View.Piece (Elt F) S1024x256 .fp8e4m3)),
      { L7 : List (View.Piece (Elt F) S1024x56 .f32) // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare o ∗ owns (c : Thread nD τ) arg10 fullShare b ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ owns (c : Thread nD τ) arg10 fullShare b ∗ (∃ d, owns (c : Thread nD τ) arg11 fullShare d)) -∗ K ⟨⟩))
          ⊢ wp frame (wpE (defs₀ (F := F)) Variants.none c none) E (cc0_gate_up_swiglu i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0_gate_up_swiglu_eq_skeleton]; unfold cc0_gate_up_swiglu_skel
    simp only [k0_part55_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists f6; iexact H6
    isplitl [H7]
    · iexists (harg9.unread o); iexact H7
    isplitl [HS0]
    · iexists _; isplitr; · ipureintro; exact harg10.read_unread _
      iexact HS0
    iexists _, _; isplitr; swap; · iexact HS1
    ipureintro; rfl

end Cert.KernelIdeal.Run

end
-- ==== Proof.KI.LeftB.lean ====
/-
  The kernel's body leaves the widened operands of the block in its scratch buffers (later point of a row of blocks).
-/
module

public import proofs.«01_k».proof.Proof.KI.RunB
public import proofs.«01_k».proof.Proof.KI.Block

@[expose] public section

set_option maxRecDepth 16384

noncomputable section

namespace Cert.KernelIdeal.Run

open Cert.KernelIdeal.Gen
open Idealize.ShloMosaic Idealize.ShloMosaic.TcCoe Idealize.ShloMosaic.Tactic
open Idealize.ShloMosaic.View (canon)

variable {F : FTy → Type} [FloatOps F]

variable (c : Dev nD) (i : grid0.Coords)
  (arg2 : Memref sig .tc .vmem S1024x4096 .fp8e4m3) (harg2 : arg2.IsWhole) (arg3 : Memref sig .tc .vmem S1024x32 .f32) (harg3 : arg3.IsWhole)
  (arg4 : Memref sig .tc .vmem S256x4096 .fp8e4m3) (harg4 : arg4.IsWhole) (arg5 : Memref sig .tc .vmem S256x4096 .fp8e4m3) (harg5 : arg5.IsWhole)
  (arg6 : Memref sig .tc .smem S56x32 .f32) (harg6 : arg6.IsWhole) (arg7 : Memref sig .tc .smem S56x32 .f32) (harg7 : arg7.IsWhole)
  (arg8 : Memref sig .tc .vmem S1024x256 .fp8e4m3) (harg8 : arg8.IsWhole) (arg9 : Memref sig .tc .vmem S1024x56 .f32) (harg9 : arg9.IsWhole)
  (arg10 : Memref sig .tc .vmem S1024x4096 .bf16) (harg10 : arg10.IsWhole) (arg11 : Memref sig .tc .vmem S512x4096 .bf16) (harg11 : arg11.IsWhole)
  (x0 : Vec F S1024x4096 .fp8e4m3) (x1 : Vec F S1024x32 .f32)
  (x2 : Vec F S256x4096 .fp8e4m3) (x3 : Vec F S256x4096 .fp8e4m3) (x4 : Vec F S56x32 .f32) (x5 : Vec F S56x32 .f32)

set_option maxHeartbeats 4000000 in
/-- Each store into the weights' scratch is the piece of `wbOf` at its place. -/
theorem runB_wpieces : ∀ p ∈ runB.sl.HS1_128 c i arg4 harg4 arg5 harg5 arg6 harg6 arg7 harg7 x2 x3 x4 x5,
    ∀ y, p.2 y = wbOf (i 1) x2 x3 x4 x5 (p.1.emb y) := by
  sl_unfold_run_names
  iterate 64 refine List.forall_mem_cons.2 ⟨fun y => wup harg5 harg7 x2 x3 x4 x5 i _ _ _ _ _ _ _ _ (by omega) (by omega) (by rfl) (by rfl) (by rfl) y _ rfl rfl, ?_⟩
  iterate 64 refine List.forall_mem_cons.2 ⟨fun y => wgate harg4 harg6 x2 x3 x4 x5 i _ _ _ _ _ _ _ (by omega) (by omega) (by rfl) (by rfl) y _ rfl rfl, ?_⟩
  exact fun p hp => absurd hp List.not_mem_nil

set_option maxHeartbeats 4000000 in
/-- The stores cover the scratch. -/
theorem runB_wcover : ∀ y, ∃ p ∈ runB.sl.HS1_128 c i arg4 harg4 arg5 harg5 arg6 harg6 arg7 harg7 x2 x3 x4 x5, y ∈ p.1.set := by
  sl_unfold_run_names
  exact View.cover_of_tiled _ S128x128.size (by rfl)

/-- The weights as the product reads them. -/
theorem runB_v1540 : runB.sl.v1540 c i arg4 harg4 arg5 harg5 arg6 harg6 arg7 harg7 arg11 x2 x3 x4 x5 = wbOf (i 1) x2 x3 x4 x5 := by
  unfold runB.sl.v1540
  rw [View.readCov_eq_canon']
  funext j
  refine (View.canon_apply_of_pieces _ _ (runB_wpieces c i arg4 harg4 arg5 harg5 arg6 harg6 arg7 harg7 x2 x3 x4 x5) _
    (runB_wcover c i arg4 harg4 arg5 harg5 arg6 harg6 arg7 harg7 x2 x3 x4 x5 _)).trans ?_
  congr 1
  funext a
  apply Fin.ext
  match a with
  | ⟨0, _⟩ => show 0 + 1 * (j 0).val = _; simp
  | ⟨1, _⟩ => show 0 + 1 * (j 1).val = _; simp

end Cert.KernelIdeal.Run

end
-- ==== Proof.KI.OutB.lean ====
/-
  What the kernel's body leaves in its outputs' buffers (later point of a row of blocks).
-/
module

public import proofs.«01_k».proof.Proof.KI.LeftB
public import proofs.«01_k».proof.Proof.KI.Out

@[expose] public section

set_option maxRecDepth 16384

noncomputable section

namespace Cert.KernelIdeal.Run

open Cert.KernelIdeal.Gen
open Idealize.ShloMosaic Idealize.ShloMosaic.TcCoe Idealize.ShloMosaic.Tactic
open Idealize.ShloMosaic.View (canon)

variable {F : FTy → Type} [FloatOps F]

variable (c : Dev nD) (i : grid0.Coords)
  (arg2 : Memref sig .tc .vmem S1024x4096 .fp8e4m3) (harg2 : arg2.IsWhole) (arg3 : Memref sig .tc .vmem S1024x32 .f32) (harg3 : arg3.IsWhole)
  (arg4 : Memref sig .tc .vmem S256x4096 .fp8e4m3) (harg4 : arg4.IsWhole) (arg5 : Memref sig .tc .vmem S256x4096 .fp8e4m3) (harg5 : arg5.IsWhole)
  (arg6 : Memref sig .tc .smem S56x32 .f32) (harg6 : arg6.IsWhole) (arg7 : Memref sig .tc .smem S56x32 .f32) (harg7 : arg7.IsWhole)
  (arg8 : Memref sig .tc .vmem S1024x256 .fp8e4m3) (harg8 : arg8.IsWhole) (arg9 : Memref sig .tc .vmem S1024x56 .f32) (harg9 : arg9.IsWhole)
  (arg10 : Memref sig .tc .vmem S1024x4096 .bf16) (harg10 : arg10.IsWhole) (arg11 : Memref sig .tc .vmem S512x4096 .bf16) (harg11 : arg11.IsWhole)
  (x0 : Vec F S1024x4096 .fp8e4m3) (x1 : Vec F S1024x32 .f32)
  (x2 : Vec F S256x4096 .fp8e4m3) (x3 : Vec F S256x4096 .fp8e4m3) (x4 : Vec F S56x32 .f32) (x5 : Vec F S56x32 .f32)

set_option maxHeartbeats 1000000 in
theorem runB_L6 (hc0 : ¬cond0_0 i) (o : Vec F S1024x56 .f32) (b : Vec F S1024x4096 .bf16) : (runB c i arg2 harg2 arg3 harg3 arg4 harg4 arg5 harg5 arg6 harg6 arg7 harg7 arg8 harg8 arg9 harg9 arg10 harg10 arg11 harg11 hc0 x0 x1 x2 x3 x4 x5 o b).1 = codesL b (wbOf (i 1) x2 x3 x4 x5) := by
  unfold runB
  dsimp only
  simp only [runB.sl.r_222, runB.sl.r_221, runB.sl.r_220, runB.sl.r_219, runB.sl.r_218, runB.sl.r_217, runB.sl.r_216, runB.sl.r_215, runB.sl.r_214, runB.sl.r_213, runB.sl.r_212, load_x, runB_v1540]
  rfl

set_option maxHeartbeats 1000000 in
theorem runB_L7 (hc0 : ¬cond0_0 i) (o : Vec F S1024x56 .f32) (b : Vec F S1024x4096 .bf16) : (runB c i arg2 harg2 arg3 harg3 arg4 harg4 arg5 harg5 arg6 harg6 arg7 harg7 arg8 harg8 arg9 harg9 arg10 harg10 arg11 harg11 hc0 x0 x1 x2 x3 x4 x5 o b).2.1 = sclL (i 1) o (scl0 b (wbOf (i 1) x2 x3 x4 x5)) (scl1 b (wbOf (i 1) x2 x3 x4 x5)) := by
  unfold runB
  dsimp only
  simp only [runB.sl.r_222, runB.sl.r_221, runB.sl.r_220, runB.sl.r_219, runB.sl.r_218, runB.sl.r_217, runB.sl.r_216, runB.sl.r_215, runB.sl.r_214, runB.sl.r_213, runB.sl.r_212, load_x, runB_v1540, load_s]
  rfl

end Cert.KernelIdeal.Run

end
-- ==== Proof.KI.StepB.lean ====
/-
  The kernel's body as a step from the contents of its buffers to their contents (later point of a row of blocks).
-/
module

public import proofs.«01_k».proof.Proof.KI.OutB

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg2 : Memref sig .tc .vmem S1024x4096 .fp8e4m3) (harg2 : arg2.IsWhole) (arg3 : Memref sig .tc .vmem S1024x32 .f32) (harg3 : arg3.IsWhole)
  (arg4 : Memref sig .tc .vmem S256x4096 .fp8e4m3) (harg4 : arg4.IsWhole) (arg5 : Memref sig .tc .vmem S256x4096 .fp8e4m3) (harg5 : arg5.IsWhole)
  (arg6 : Memref sig .tc .smem S56x32 .f32) (harg6 : arg6.IsWhole) (arg7 : Memref sig .tc .smem S56x32 .f32) (harg7 : arg7.IsWhole)
  (arg8 : Memref sig .tc .vmem S1024x256 .fp8e4m3) (harg8 : arg8.IsWhole) (arg9 : Memref sig .tc .vmem S1024x56 .f32) (harg9 : arg9.IsWhole)
  (arg10 : Memref sig .tc .vmem S1024x4096 .bf16) (harg10 : arg10.IsWhole) (arg11 : Memref sig .tc .vmem S512x4096 .bf16) (harg11 : arg11.IsWhole)
  (x0 : Vec F S1024x4096 .fp8e4m3) (x1 : Vec F S1024x32 .f32)
  (x2 : Vec F S256x4096 .fp8e4m3) (x3 : Vec F S256x4096 .fp8e4m3) (x4 : Vec F S56x32 .f32) (x5 : Vec F S56x32 .f32)

omit [FloatOps F] in
/-- What a run establishes of its lists of stores holds of lists equal to them. -/
theorem ofSigma2 {α γ : Type _} {P : α → γ → Prop} (S : Σ' (a : α), {c : γ // P a c}) {a : α} {c : γ}
    (ha : S.1 = a) (hc : S.2.1 = c) : P a c := by
  subst ha hc; exact S.2.2

set_option maxHeartbeats 1600000 in
theorem stepB (hc0 : ¬cond0_0 i) (o : Vec F S1024x56 .f32) (b : Vec F S1024x4096 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare o ∗ owns (c : Thread nD τ) arg10 fullShare b ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (codesOf b (wbOf (i 1) x2 x3 x4 x5)) ∗ owns (c : Thread nD τ) arg9 fullShare (updOf (i 1) o (scl0 b (wbOf (i 1) x2 x3 x4 x5)) (scl1 b (wbOf (i 1) x2 x3 x4 x5))) ∗ owns (c : Thread nD τ) arg10 fullShare b ∗ (∃ d, owns (c : Thread nD τ) arg11 fullShare d)) -∗ K ⟨⟩))
      ⊢ wp frame (wpE (defs₀ (F := F)) Variants.none c none) E (cc0_gate_up_swiglu i arg2 harg2 arg3 harg3 arg4 harg4 arg5 harg5 arg6 harg6 arg7 harg7 arg8 harg8 arg9 harg9 arg10 harg10 arg11 harg11) K := by
  have h := ofSigma2 (runB c i arg2 harg2 arg3 harg3 arg4 harg4 arg5 harg5 arg6 harg6 arg7 harg7 arg8 harg8 arg9 harg9 arg10 harg10 arg11 harg11 hc0 x0 x1 x2 x3 x4 x5 o b) (runB_L6 c i arg2 harg2 arg3 harg3 arg4 harg4 arg5 harg5 arg6 harg6 arg7 harg7 arg8 harg8 arg9 harg9 arg10 harg10 arg11 harg11 x0 x1 x2 x3 x4 x5 hc0 o b)  (runB_L7 c i arg2 harg2 arg3 harg3 arg4 harg4 arg5 harg5 arg6 harg6 arg7 harg7 arg8 harg8 arg9 harg9 arg10 harg10 arg11 harg11 x0 x1 x2 x3 x4 x5 hc0 o b) E K
  beta_reduce at h
  refine BIBase.Entails.trans ?_ h
  iintro ⟨H0, H1, H2, H3, H4, H5, H6, H7, HS0, HS1, Hk⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, H4, H5, ⟨%f6, H6⟩, ⟨%f7, H7⟩, HS0, HS1⟩
  iapply Hk
  isplitl [H0]; · iexact H0
  isplitl [H1]; · iexact H1
  isplitl [H2]; · iexact H2
  isplitl [H3]; · iexact H3
  isplitl [H4]; · iexact H4
  isplitl [H5]; · iexact H5
  isplitl [H6]
  · unfold owns
    iexists _
    isplitr; swap
    · iexact H6
    · ipureintro
      exact (View.read_writes_eq_canon _ _ _ (codesL_cover _ _)).trans (codesL_canon _ _)
  isplitl [H7]
  · unfold owns
    iexists _
    isplitr; swap
    · iexact H7
    · ipureintro
      exact (View.read_writes_eq_canon _ _ _ (sclL_cover _ _ _ _)).trans (sclL_canon _ _ _ _)
  isplitl [HS0]
  · iexact HS0
  iexact HS1

end Cert.KernelIdeal.Run

end
-- ==== Proof.KI.Body.lean ====
/-
  The kernel's body at any grid point: what it finds in the buffers it is handed and what it leaves there.
-/
module

public import proofs.«01_k».proof.Proof.KI.Data
public import proofs.«01_k».proof.Proof.KI.StepA
public import proofs.«01_k».proof.Proof.KI.StepB
public import Idealize.ShloMosaic.Lib.Pipeline.DatRel

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F]

local notation "𝕄" => MT nD τ sig Unit (Elt F) ℕ (UR sig nD τ) ℕ

variable (m : (ℓ : Loc nD τ sig) → Buf (Elt F) ℓ)

/-- The scales' window is the one held to a predicate. -/
def marks : Fin 8 → Bool := fun w => w.val == 7

/-- What a point may leave in the scales' buffer (`sclSpec`); nothing is asked of another window. -/
def Rl (c : Dev nD) : (w : Fin cfg0.W) → Fin cfg0.N → ((cfg0.win w).block.Idx → Elt F (cfg0.win w).elt) → Prop
  | ⟨7, _⟩ => fun t X => sclSpec m c t X
  | _ => fun _ _ => True

/-- Between points: the widened activations' scratch holds the row of blocks' activations once its first point has run. -/
def PhiX (c : Dev nD) (k : Fin (cfg0.N + 1)) : sProp 𝕄 :=
  iprop(iprop((∃ d, ⌜∀ t : Fin cfg0.N, k.val % 28 ≠ 0 → t.val / 28 = k.val / 28 → d = XB m c t⌝ ∗ owns (c : Thread nD τ) scM0_0 fullShare d)
    ∗ (∃ d, owns (c : Thread nD τ) scM0_1 fullShare d)) ∗ (∃ r, prngReg c r))

/-- The proof data: the arrays as the region finds them, each input's buffer at its block, the codes' buffer at the point's codes. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => codesAt m c t
    | ⟨7, h⟩ => Pipeline.Dat.unnamed (cfg := cfg0) ⟨7, h⟩ t
  Φ k := PhiX m c k
  q _ := fullShare
  owed _ := 0

theorem A_eq (c : Dev nD) (w : Fin cfg0.W) : (dats m c).A w = V m c (Pipeline.arrRef spec0 w) := by
  dsimp only [dats]
theorem Phi_eq (c : Dev nD) (k : Fin (cfg0.N + 1)) : (dats m c).Φ k = PhiX m c k := by
  dsimp only [dats]

theorem after0_0 (c : Dev nD) (t : Fin cfg0.N) : (dats m c).after 0 t = iblk m c 0 t := by dsimp only [dats]
theorem after0_1 (c : Dev nD) (t : Fin cfg0.N) : (dats m c).after 1 t = iblk m c 1 t := by dsimp only [dats]
theorem after0_2 (c : Dev nD) (t : Fin cfg0.N) : (dats m c).after 2 t = iblk m c 2 t := by dsimp only [dats]
theorem after0_3 (c : Dev nD) (t : Fin cfg0.N) : (dats m c).after 3 t = iblk m c 3 t := by dsimp only [dats]
theorem after0_4 (c : Dev nD) (t : Fin cfg0.N) : (dats m c).after 4 t = iblk m c 4 t := by dsimp only [dats]
theorem after0_5 (c : Dev nD) (t : Fin cfg0.N) : (dats m c).after 5 t = iblk m c 5 t := by dsimp only [dats]
theorem after0_6 (c : Dev nD) (t : Fin cfg0.N) : (dats m c).after 6 t = codesAt m c t := by dsimp only [dats]

theorem before0_0 (c : Dev nD) (t : Fin cfg0.N) (d) : (dats m c).before 0 t d = iblk m c 0 t :=
  before0_0_of m (dats m c) (A_eq m c 0) (after0_0 m c) t d
theorem before0_1 (c : Dev nD) (t : Fin cfg0.N) (d) : (dats m c).before 1 t d = iblk m c 1 t :=
  before0_1_of m (dats m c) (A_eq m c 1) (after0_1 m c) t d
theorem before0_2 (c : Dev nD) (t : Fin cfg0.N) (d) : (dats m c).before 2 t d = iblk m c 2 t :=
  before0_2_of m (dats m c) (A_eq m c 2) (after0_2 m c) t d
theorem before0_3 (c : Dev nD) (t : Fin cfg0.N) (d) : (dats m c).before 3 t d = iblk m c 3 t :=
  before0_3_of m (dats m c) (A_eq m c 3) (after0_3 m c) t d
theorem before0_4 (c : Dev nD) (t : Fin cfg0.N) (d) : (dats m c).before 4 t d = iblk m c 4 t :=
  before0_4_of m (dats m c) (A_eq m c 4) (after0_4 m c) t d
theorem before0_5 (c : Dev nD) (t : Fin cfg0.N) (d) : (dats m c).before 5 t d = iblk m c 5 t :=
  before0_5_of m (dats m c) (A_eq m c 5) (after0_5 m c) t d

/-- What the body finds in the scales' buffer at a later point of a row of blocks meets the predicate of the point before. -/
theorem finds7 (c : Dev nD) (t : Fin cfg0.N) (Y : (cfg0.win 7).block.Idx → Elt F (cfg0.win 7).elt)
    (h : ((dats m c).toRRel marks (Rl m c)).Finds 7 t Y) (h0 : t.val % 28 ≠ 0) (s : Fin cfg0.N) (hs : s.val + 1 = t.val) : sclSpec m c s Y := by
  have hz : t.val ≠ 0 := fun e => h0 (by rw [e])
  have hn : (cfg0.win 7).fetch t = false := Pipeline.Window.fetch_out _ rfl t
  have h := (Pipeline.RDat.finds_of_pos _ hn hz Y).1 h
  have es : (⟨t.val - 1, Nat.lt_of_le_of_lt (Nat.sub_le _ _) t.isLt⟩ : Fin cfg0.N) = s := Fin.ext (by show t.val - 1 = s.val; omega)
  rw [es] at h
  rcases h with h | h
  · have := (flush0_7 s).1 h
    omega
  · exact Dat.toRRel_leaves _ (show marks 7 = true from rfl) h

/-! ## The body obligation, at a generic point -/

/-- What the body is called with at point `t`, -/
def bodyPre (c : Dev nD) (t : Fin cfg0.N) : sProp 𝕄 :=
  iprop((dats m c).Φ t.castSucc ∗ (dats m c).owesAt () t.castSucc
    ∗ (∃ d, owns (c : Thread nD τ) (ms0_0 t) fullShare ((dats m c).before 0 t d))
    ∗ (∃ d, owns (c : Thread nD τ) (ms0_1 t) fullShare ((dats m c).before 1 t d))
    ∗ (∃ d, owns (c : Thread nD τ) (ms0_2 t) fullShare ((dats m c).before 2 t d))
    ∗ (∃ d, owns (c : Thread nD τ) (ms0_3 t) fullShare ((dats m c).before 3 t d))
    ∗ (∃ d, owns (c : Thread nD τ) (ms0_4 t) fullShare ((dats m c).before 4 t d))
    ∗ (∃ d, owns (c : Thread nD τ) (ms0_5 t) fullShare ((dats m c).before 5 t d))
    ∗ (∃ d, owns (c : Thread nD τ) (ms0_6 t) fullShare ((dats m c).before 6 t d))
    ∗ (∃ Y, ⌜((dats m c).toRRel marks (Rl m c)).Finds 7 t Y⌝ ∗ owns (c : Thread nD τ) (ms0_7 t) fullShare Y))

/-- and what it returns. -/
def bodyPost (c : Dev nD) (t : Fin cfg0.N) : sProp 𝕄 :=
  iprop((dats m c).Φ t.succ ∗ (dats m c).owesAt () t.succ
    ∗ owns (c : Thread nD τ) (ms0_0 t) fullShare ((dats m c).after 0 t)
    ∗ owns (c : Thread nD τ) (ms0_1 t) fullShare ((dats m c).after 1 t)
    ∗ owns (c : Thread nD τ) (ms0_2 t) fullShare ((dats m c).after 2 t)
    ∗ owns (c : Thread nD τ) (ms0_3 t) fullShare ((dats m c).after 3 t)
    ∗ owns (c : Thread nD τ) (ms0_4 t) fullShare ((dats m c).after 4 t)
    ∗ owns (c : Thread nD τ) (ms0_5 t) fullShare ((dats m c).after 5 t)
    ∗ owns (c : Thread nD τ) (ms0_6 t) fullShare ((dats m c).after 6 t)
    ∗ (∃ X, ⌜Rl m c 7 t X⌝ ∗ owns (c : Thread nD τ) (ms0_7 t) fullShare X))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [Phi_eq, Phi_eq,
    show (dats m c).owesAt () t.succ = (dats m c).owesAt () t.castSucc from rfl,
    after0_0, after0_1, after0_2, after0_3, after0_4, after0_5, after0_6]
  unfold PhiX
  have hN : t.val < 168 := lt168 t
  by_cases h0 : t.val % 28 = 0
  · iintro ⟨⟨⟨⟨%e0, -, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%Y, %hY, H7⟩⟩
    iapply (stepA c (grid0.coords t) _ _ _ _ _ _ _ _ _ _ _ _ _ _ _ _ _ _ _ _ (iblk m c 0 t) (iblk m c 1 t) (iblk m c 2 t) (iblk m c 3 t) (iblk m c 4 t) (iblk m c 5 t) ((hcond0_0 t).mpr h0) Y Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS0]; · iexists _; iexact HS0
    isplitl [HS1]; · iexact HS1
    iintro ⟨H0, H1, H2, H3, H4, H5, H6, H7, HS0, HS1⟩
    isplitl [HS0 HS1 Hg]
    · isplitl [HS0 HS1]
      · isplitl [HS0]
        · iexists (XB m c t)
          isplitr
          · ipureintro
            intro u hu hd
            have : u.val / 28 = t.val / 28 := by
              have hd' : u.val / 28 = (t.val + 1) / 28 := hd
              omega
            exact (XB_congr m c this).symm
          · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    · iexists (updOf (grid0.coords t 1) Y (sclAt0 m c t) (sclAt1 m c t))
      isplitr
      · ipureintro
        exact sclSpec_step m c t Y fun h => absurd h0 h
      · iexact H7
  · iintro ⟨⟨⟨⟨%e0, %he0, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%Y, %hY, H7⟩⟩
    obtain rfl : e0 = XB m c t := he0 t h0 rfl
    iapply (stepB c (grid0.coords t) _ _ _ _ _ _ _ _ _ _ _ _ _ _ _ _ _ _ _ _ (iblk m c 0 t) (iblk m c 1 t) (iblk m c 2 t) (iblk m c 3 t) (iblk m c 4 t) (iblk m c 5 t) (fun h => h0 ((hcond0_0 t).mp h)) Y (XB m c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS0]; · iexact HS0
    isplitl [HS1]; · iexact HS1
    iintro ⟨H0, H1, H2, H3, H4, H5, H6, H7, HS0, HS1⟩
    isplitl [HS0 HS1 Hg]
    · isplitl [HS0 HS1]
      · isplitl [HS0]
        · iexists (XB m c t)
          isplitr
          · ipureintro
            intro u hu hd
            have : u.val / 28 = t.val / 28 := by
              have hd' : u.val / 28 = (t.val + 1) / 28 := hd
              have hu' : (t.val + 1) % 28 ≠ 0 := hu
              omega
            exact (XB_congr m c this).symm
          · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    · iexists (updOf (grid0.coords t 1) Y (sclAt0 m c t) (sclAt1 m c t))
      isplitr
      · ipureintro
        exact sclSpec_step m c t Y fun h s hs => finds7 m c t Y hY h s hs
      · iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligationRel (dats (F := F) m c) (defs₀ (F := F)) Variants.none () Set.univ marks (Rl m c) := fun t => by
  rw [bigSep_W0, bigSep_W0, defs₀_row]
  exact triple_restated (sound_body m c t) rfl .rfl fun _ => .rfl

end Cert.KernelIdeal.Run

end
-- ==== Proof.KI.Final.lean ====
/-
  The kernel's run from launch to end: it ends with every counter at zero and the arguments unchanged, and its two results hold
  the codes and the scales of the grid points, block by block.
-/
module

public import proofs.«01_k».proof.Proof.KI.Body
public import Idealize.ShloMosaic.Lib.Pipeline.ArrRel
public import Idealize.ShloMosaic.Lib.Pipeline.ValueKit

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data with the scales' window held to its predicate. -/
def rdats (c : Dev nD) : RDat τ (Elt F) Unit ℕ (UR sig nD τ) ℕ (cfgs 0) c := (dats m c).toRRel marks (Rl m c)

theorem rdats_A (c : Dev nD) (w : Fin cfg0.W) : (rdats m c).A w = V m c (Pipeline.arrRef spec0 w) := by
  unfold rdats
  rw [Dat.toRRel_A]
  exact A_eq m c w

/-- Before the first point nothing is asked of the scratch. -/
theorem hin (c : Dev nD) : (Pipeline.ΦA spec0 c : sProp 𝕄) ⊢ (rdats m c).Φ 0 := by
  unfold rdats
  rw [Dat.toRRel_Φ, Phi_eq, PhiA0_eq]
  unfold PhiX
  iintro ⟨⟨⟨%d, H0⟩, H1⟩, Hg⟩
  isplitl [H0 H1]
  · isplitl [H0]
    · iexists d
      isplitr
      · ipureintro
        intro t h
        exact absurd rfl h
      · iexact H0
    · iexact H1
  · iexact Hg

/-- After the last point what the scratch holds is forgotten. -/
theorem hout (c : Dev nD) : (rdats m c).Φ (Fin.last cfg0.N) ⊢ (Pipeline.ΦA spec0 c : sProp 𝕄) := by
  unfold rdats
  rw [Dat.toRRel_Φ, Phi_eq, PhiA0_eq]
  unfold PhiX
  iintro ⟨⟨⟨%d, -, H0⟩, H1⟩, Hg⟩
  isplitl [H0 H1]
  · isplitl [H0]
    · iexists d
      iexact H0
    · iexact H1
  · iexact Hg

set_option backward.isDefEq.respectTransparency.types false in
/-- The launch. -/
theorem run_main_quiescent : θ_run defs (onTc (τ := τ) (main (F := F))) (s₀ m ρ)
    (fun r => (RDat.FramePost (cfgs 0) (rdats m) (V m)) r ∧ r.2.sem = fun _ => 0) :=
  RDat.θ_run_frame_track (Q' := _) cfgs (0 : Fin 1) launch0 defs₀ Variants.none (rdats m) m ρ main
    (hbody := fun c => (body_obligation m c).toRRel) (hshare := fun c => (dats m c).share_full fun _ => rfl)
    (howed := fun _ _ => rfl) (V := V m) (hmain := hmain m Variants.none) (hA := rdats_A m) (hin := hin m) (hout := hout m)

theorem run_main : θ_run defs (onTc (τ := τ) (main (F := F))) (s₀ m ρ) (RDat.FramePost (cfgs 0) (rdats m) (V m)) :=
  (θ_run defs _ _).mono (fun _ h => h.1) (run_main_quiescent m ρ)

/-- The arguments end unchanged. -/
theorem kept (r : PUnit × MemSt nD τ sig (Elt F)) (h : RDat.FramePost (cfgs 0) (rdats m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (RDat.FramePost.arr_in h c 2 rfl).trans ((rdats_A m c 2).trans (V_main_arg2 m c)),
      (RDat.FramePost.arr_in h c 4 rfl).trans ((rdats_A m c 4).trans (V_main_arg3 m c)),
      (RDat.FramePost.arr_in h c 3 rfl).trans ((rdats_A m c 3).trans (V_main_arg4 m c)),
      (RDat.FramePost.arr_in h c 5 rfl).trans ((rdats_A m c 5).trans (V_main_arg5 m c))⟩

/-- The frame claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨kept m r h.1, h.2⟩) (run_main_quiescent m ρ)

end Cert.KernelIdeal.Run

end
-- ==== Proof.KI.Arrays.lean ====
/-
  The kernel's two results after its run, element by element: the codes of the grid point whose block holds the element, and the
  scale of its group.
-/
module

public import proofs.«01_k».proof.Proof.KI.Final

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.Sem
open Idealize.ShloMosaic.Pipeline (Dat RDat Cfg Window)

variable {F : FTy → Type} [FloatOps F]

variable (m : (ℓ : Loc nD τ sig) → Buf (Elt F) ℓ) (c : Dev nD)

/-- The grid point that computes a row block and a column block. -/
def ptOf (i j : ℕ) (hi : i < 6) (hj : j < 28) : Fin cfg0.N := ⟨28 * i + j, lt_of_lt_of_eq (by omega) (show cfg0.N = 168 from N_0).symm⟩

/-- The codes' array. -/
def codesArr : S6144x7168.Idx → Elt F .fp8e4m3 := fun i =>
  codesAt m c (ptOf ((i 0).val / 1024) ((i 1).val / 256) (by have : (i 0).val < 6144 := (i 0).isLt; omega) (by have : (i 1).val < 7168 := (i 1).isLt; omega))
    (ix2 (n0 := 1024) (n1 := 256) ⟨(i 0).val % 1024, Nat.mod_lt _ (by decide)⟩ ⟨(i 1).val % 256, Nat.mod_lt _ (by decide)⟩)

/-- The scales' array. -/
def sclArr : S6144x56.Idx → Elt F .f32 := fun i =>
  if (i 1).val % 2 = 0 then
    sclAt0 m c (ptOf ((i 0).val / 1024) ((i 1).val / 2) (by have : (i 0).val < 6144 := (i 0).isLt; omega) (by have : (i 1).val < 56 := (i 1).isLt; omega))
      (ix2 (n0 := 1024) (n1 := 1) ⟨(i 0).val % 1024, Nat.mod_lt _ (by decide)⟩ 0)
  else
    sclAt1 m c (ptOf ((i 0).val / 1024) ((i 1).val / 2) (by have : (i 0).val < 6144 := (i 0).isLt; omega) (by have : (i 1).val < 56 := (i 1).isLt; omega))
      (ix2 (n0 := 1024) (n1 := 1) ⟨(i 0).val % 1024, Nat.mod_lt _ (by decide)⟩ 0)

theorem codesAt_congr {t u : Fin cfg0.N} (h : t.val = u.val) {y z : S1024x256.Idx} (h0 : (y 0).val = (z 0).val) (h1 : (y 1).val = (z 1).val) :
    codesAt m c t y = codesAt m c u z := by
  obtain rfl : t = u := Fin.ext h
  obtain rfl : y = z := funext fun a => Fin.ext (by fin_cases a <;> assumption)
  rfl

theorem codesArr_at (t : Fin cfg0.N) (y : S1024x256.Idx) (i : S6144x7168.Idx)
    (h0 : (i 0).val = t.val / 28 * 1024 + (y 0).val) (h1 : (i 1).val = t.val % 28 * 256 + (y 1).val) :
    codesAt m c t y = codesArr m c i := by
  have hy0 : (y 0).val < 1024 := (y 0).isLt
  have hy1 : (y 1).val < 256 := (y 1).isLt
  have ht := lt168 t
  unfold codesArr
  refine codesAt_congr m c ?_ ?_ ?_
  · show t.val = 28 * ((i 0).val / 1024) + (i 1).val / 256
    omega
  · show (y 0).val = (i 0).val % 1024
    omega
  · show (y 1).val = (i 1).val % 256
    omega

theorem sclArr_at (t : Fin cfg0.N) (ht27 : t.val % 28 = 27) (X : Vec F S1024x56 .f32) (hX : sclSpec m c t X) (y : S1024x56.Idx) (i : S6144x56.Idx)
    (h0 : (i 0).val = t.val / 28 * 1024 + (y 0).val) (h1 : (i 1).val = (y 1).val) : X y = sclArr m c i := by
  have hy0 : (y 0).val < 1024 := (y 0).isLt
  have hy1 : (y 1).val < 56 := (y 1).isLt
  have ht := lt168 t
  have hX := hX (ptOf ((i 0).val / 1024) ((i 1).val / 2) (by omega) (by omega))
    (by show (28 * ((i 0).val / 1024) + (i 1).val / 2) / 28 = _; omega) (by show 28 * ((i 0).val / 1024) + (i 1).val / 2 ≤ _; omega) y
  have e : (ix2 (n0 := 1024) (n1 := 1) ⟨(y 0).val, (y 0).isLt⟩ 0 : S1024x1.Idx) = ix2 (n0 := 1024) (n1 := 1) ⟨(i 0).val % 1024, Nat.mod_lt _ (by decide)⟩ 0 := by
    congr 1
    exact Fin.ext (by show (y 0).val = (i 0).val % 1024; omega)
  have ev : (ptOf ((i 0).val / 1024) ((i 1).val / 2) (by omega) (by omega)).val % 28 = (i 1).val / 2 := by
    show (28 * ((i 0).val / 1024) + (i 1).val / 2) % 28 = _
    omega
  rw [ev] at hX
  unfold sclArr
  split
  · exact (hX.1 (by omega)).trans (by rw [e])
  · exact (hX.2 (by omega)).trans (by rw [e])

section Arrays
variable (after : (w : Fin cfg0.W) → Fin cfg0.N → (cfg0.win w).block.Idx → Elt F (cfg0.win w).elt)

theorem codes_final (h : ∀ t, (cfg0.win 6).flush t = true → (rdats m c).Leaves 6 t (after 6 t)) :
    ((rdats m c).withAfter after).arrAt 6 cfg0.N = codesArr m c := by
  refine ((rdats m c).withAfter after).arrAt_eq_of_covers 6 _ (by decide +kernel) fun t hf y => ?_
  have hl : after 6 t = codesAt m c t := by
    obtain ⟨Y, -, hY⟩ := h t hf
    unfold rdats at hY
    rw [Dat.toRRel_after_of_eq_false (dats m c) (show marks 6 = false from rfl)] at hY
    exact ((Dat.Leaves.live_iff (dats m c) (Or.inl rfl)).1 hY).trans (after0_6 m c t)
  blk_simp
  refine (congrFun hl y).trans ?_
  refine codesArr_at m c t _ _ ?_ ?_
  · blk_simp [idx t]
  · blk_simp [idx t]

theorem scl_final (h : ∀ t, (cfg0.win 7).flush t = true → (rdats m c).Leaves 7 t (after 7 t)) :
    ((rdats m c).withAfter after).arrAt 7 cfg0.N = sclArr m c := by
  refine ((rdats m c).withAfter after).arrAt_eq_of_covers 7 _ (by decide +kernel) fun t hf y => ?_
  have hl : sclSpec m c t (after 7 t) := Dat.toRRel_leaves _ (show marks 7 = true from rfl) (h t hf)
  blk_simp
  refine sclArr_at m c t ((flush0_7 t).1 hf) _ hl _ _ ?_ ?_
  · blk_simp [idx t]
  · blk_simp [idx t]

end Arrays

/-- What the run leaves: the two results, and the arguments unchanged. -/
theorem run_values (ρ : Dev nD → PrngReg) : θ_run defs (onTc (τ := τ) (main (F := F))) ⟨m, fun _ => 0, ρ⟩ (fun r => ∀ c : Dev nD,
      r.2.mem ((c.tc : Thread nD τ).loc main_v2_0) = codesArr m c
      ∧ r.2.mem ((c.tc : Thread nD τ).loc main_v2_1) = sclArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => by
    obtain ⟨after, hl, hA⟩ := RDat.FramePost.exists_exact h c
    exact ⟨(hA 6).trans (codes_final m c after fun t hf => hl 6 t hf), (hA 7).trans (scl_final m c after fun t hf => hl 7 t hf), kept m r h c⟩) (run_main m ρ)

end Cert.KernelIdeal.Run

end
-- ==== Proof.Quant.lean ====
/-
  The power of two a group is scaled by, read over the extended reals: the kernel finds the exponent's field of the threshold by
  comparing it with every power of two and shifts it, the reference takes the floor of a logarithm and an exponential. Both give
  the same scale and the same inverse, of every threshold.
-/
module

public import Idealize.ShloMosaic.PureOps.Ideal
public import Idealize.ShloMosaic.Lib.SortNet.Extract
public import Idealize.ShloMosaic.Lib.Pointwise

@[expose] public section

set_option maxRecDepth 16384

noncomputable section

namespace Cert.Quant

open Idealize.ShloMosaic Idealize.ShloMosaic.Tactic

/-- The pattern with exponent field `k`. -/
def pat (k : ℕ) : BitVec 32 := IntOp.shli .vector (BitVec.ofNat 32 k) 23#32

/-- What it denotes. -/
def pow (k : ℕ) : EReal := Ideal.ofBits .f32 (pat k)

theorem pat_fields : ∀ k : Fin 256, ((pat k).extractLsb' 31 1 == 1#1) = false ∧ ((pat k).extractLsb' 23 8).toNat = k.val
    ∧ ((pat k).extractLsb' 0 23).toNat = 0 := by decide +kernel

/-- A normal pattern denotes the power of two of its exponent. -/
theorem pow_eq (k : ℕ) (h1 : 1 ≤ k) (h2 : k ≤ 254) : pow k = (((2 : ℝ) ^ ((k : ℤ) - 127) : ℝ) : EReal) := by
  obtain ⟨ha, hb, hc⟩ := pat_fields ⟨k, by omega⟩
  have e : pow k = Ideal.ieee 8 23 (pat k) := rfl
  have hr : (2 : ℝ) ^ ((k : ℤ) - 127) = 2 ^ (23 : ℤ) * 2 ^ ((k : ℤ) - 150) := by
    rw [← zpow_add₀ two_ne_zero, show (23 : ℤ) + ((k : ℤ) - 150) = (k : ℤ) - 127 by ring]
  rw [e, hr]
  unfold Ideal.ieee
  simp only at ha hb hc
  simp only [ha, hb, hc, show 8 + 23 = 31 from rfl]
  rw [if_neg (by omega), if_neg (by omega), show (k : ℤ) - (2 ^ (8 - 1) - 1) - ((23 : ℕ) : ℤ) = (k : ℤ) - 150 by norm_num; ring]
  norm_num [-EReal.coe_mul]

theorem pow_zero' : pow 0 = 0 := by
  obtain ⟨ha, hb, hc⟩ := pat_fields ⟨0, by omega⟩
  have e : pow 0 = Ideal.ieee 8 23 (pat 0) := rfl
  rw [e]
  unfold Ideal.ieee
  simp only at ha hb hc
  simp only [ha, hb, hc, show 8 + 23 = 31 from rfl]
  norm_num

theorem pow_top : pow 255 = ⊤ := by
  obtain ⟨ha, hb, hc⟩ := pat_fields ⟨255, by omega⟩
  have e : pow 255 = Ideal.ieee 8 23 (pat 255) := rfl
  rw [e]
  unfold Ideal.ieee
  simp only at ha hb hc
  simp only [ha, hb, hc, show 8 + 23 = 31 from rfl]
  norm_num

/-- The powers grow with the field. -/
theorem pow_mono {a b : ℕ} (h1 : 1 ≤ a) (h : a ≤ b) (h2 : b ≤ 255) : pow a ≤ pow b := by
  rcases Nat.lt_or_ge b 255 with hb | hb
  · rw [pow_eq a h1 (by omega), pow_eq b (by omega) (by omega)]
    exact EReal.coe_le_coe_iff.2 (zpow_le_zpow_right₀ one_le_two (by omega))
  · obtain rfl : b = 255 := by omega
    rw [pow_top]
    exact le_top

/-! ## The kernel's side -/

/-- What the comparison with field `k` contributes. -/
def cand (T : EReal) (k : ℕ) : BitVec 32 :=
  if Ideal.ofBits FTy.f32 (IntOp.shli ArithUnit.vector (BitVec.ofNat 32 k) 23#32) ≤ T then
    Scalar.select (IntOp.cmpi CmpIPredicate.slt (BitVec.ofNat 32 k) 253#32) (IntOp.shli ArithUnit.vector (BitVec.ofNat 32 k) 23#32) 2139095040#32
  else 0#32

/-- The greatest contribution. -/
def raw (T : EReal) : BitVec 32 := Finset.fold IntOp.maxsi (2147483648#32) (fun x : Fin 256 => cand T x.val) Finset.univ

/-- The field used: a half where the threshold has none. -/
def field (T : EReal) : BitVec 32 :=
  Scalar.select (IntOp.ori (IntOp.cmpi .eq (raw T) 0#32) (IntOp.cmpi .eq (raw T) 2139095040#32)) (1056964608#32) (raw T)

/-- The kernel's scale and its inverse. -/
def kScale (T : EReal) : EReal := Ideal.ofBits FTy.f32 (IntOp.addi (field T) 8388608#32)
def kInv (T : EReal) : EReal := Ideal.ofBits FTy.f32 (IntOp.subi 2122317824#32 (field T))

/-- A contribution where the comparison holds. -/
def val (k : ℕ) : BitVec 32 := Scalar.select (IntOp.cmpi CmpIPredicate.slt (BitVec.ofNat 32 k) 253#32) (pat k) 2139095040#32

theorem cand_pos {T : EReal} {k : ℕ} (h : pow k ≤ T) : cand T k = val k := if_pos h
theorem cand_neg {T : EReal} {k : ℕ} (h : ¬ pow k ≤ T) : cand T k = 0#32 := if_neg h

theorem val_mono : ∀ a b : Fin 256, a ≤ b → (val a).toInt ≤ (val b).toInt := by decide +kernel
theorem val_lt : ∀ a : Fin 256, a.val < 253 → val a = pat a := by decide +kernel
theorem val_ge : ∀ a : Fin 256, 253 ≤ a.val → val a = 2139095040#32 := by decide +kernel
theorem val_pos : ∀ a : Fin 256, 1 ≤ a.val → 0 < (val a).toInt := by decide +kernel
theorem val_zero : val 0 = 0#32 := by decide +kernel
theorem pat_ne : ∀ a : Fin 256, 1 ≤ a.val → a.val ≤ 252 →
    IntOp.ori (IntOp.cmpi .eq (pat a) 0#32) (IntOp.cmpi .eq (pat a) 2139095040#32) = 0#1 := by decide +kernel

/-- Where `n` is the last field that compares, the fold is its contribution. -/
theorem raw_eq (T : EReal) (n : ℕ) (hn : 1 ≤ n) (hn' : n ≤ 253) (h : pow n ≤ T) (hlt : n < 253 → ¬ pow (n + 1) ≤ T) : raw T = val n := by
  obtain ⟨-, hge, hmem⟩ := Idealize.ShloMosaic.SortNet.fold_maxsi_spec (fun x : Fin 256 => cand T x.val) Finset.univ (2147483648#32)
  have h1 : (val n).toInt ≤ (raw T).toInt := by
    have := hge ⟨n, by omega⟩ (Finset.mem_univ _)
    rwa [cand_pos h] at this
  have hp : 0 < (val n).toInt := val_pos ⟨n, by omega⟩ hn
  rcases hmem with hm | ⟨i, -, hm⟩
  · have : (raw T).toInt = -2147483648 := (congrArg BitVec.toInt hm).trans (by decide)
    omega
  · have hm : raw T = cand T i.val := hm
    by_cases hi : pow i.val ≤ T
    · rw [cand_pos hi] at hm
      rw [hm]
      by_cases hin : i.val ≤ n
      · have := val_mono i ⟨n, by omega⟩ hin
        rw [hm] at h1
        exact BitVec.toInt_inj.1 (le_antisymm this h1)
      · rcases Nat.lt_or_ge n 253 with hb | hb
        · exact absurd (le_trans (pow_mono (by omega) (by omega) (by have := i.isLt; omega)) hi) (hlt hb)
        · exact (val_ge i (by omega)).trans (val_ge ⟨n, by omega⟩ hb).symm
    · rw [cand_neg hi] at hm
      rw [hm] at h1
      have : (0#32 : BitVec 32).toInt = 0 := by decide
      omega

/-- Where no normal power compares, it is zero. -/
theorem raw_zero (T : EReal) (h : ¬ pow 1 ≤ T) : raw T = 0#32 := by
  obtain ⟨-, hge, hmem⟩ := Idealize.ShloMosaic.SortNet.fold_maxsi_spec (fun x : Fin 256 => cand T x.val) Finset.univ (2147483648#32)
  have hc : ∀ i : Fin 256, cand T i.val = 0#32 := fun i => by
    by_cases hi : pow i.val ≤ T
    · rcases Nat.eq_zero_or_pos i.val with h0 | h0
      · rw [cand_pos hi, h0, val_zero]
      · exact absurd (le_trans (pow_mono (le_refl 1) h0 (by have := i.isLt; omega)) hi) h
    · exact cand_neg hi
  rcases hmem with hm | ⟨i, -, hm⟩
  · have h0 : (0#32 : BitVec 32).toInt ≤ (raw T).toInt := by
      have := hge 0 (Finset.mem_univ _)
      rwa [hc 0] at this
    have : (raw T).toInt = -2147483648 := (congrArg BitVec.toInt hm).trans (by decide)
    have : (0#32 : BitVec 32).toInt = 0 := by decide
    omega
  · exact Eq.trans hm (hc i)

/-! ## The reference's side -/

/-- The reference's exponent. -/
def rExp (T : EReal) : EReal :=
  Scalar.select (IntOp.andi (BitVec.ofBool (decide (Ideal.ofBits FTy.f32 8388608#32 ≤ T))) (BitVec.ofBool (decide (T < Ideal.ofBits FTy.f32 2122317824#32))))
    (Ideal.liftRound Int.floor (Ideal.div (Ideal.log T) (Ideal.log (Ideal.ofBits FTy.f32 1073741824#32))) + 1) 0

theorem guard_eq (T : EReal) : rExp T = if pow 1 ≤ T ∧ T < pow 253 then
    Ideal.liftRound Int.floor (Ideal.div (Ideal.log T) (Ideal.log (Ideal.ofBits FTy.f32 1073741824#32))) + 1 else 0 := by
  have e1 : pow 1 = Ideal.ofBits FTy.f32 8388608#32 := congrArg (Ideal.ofBits FTy.f32) (by decide +kernel)
  have e2 : pow 253 = Ideal.ofBits FTy.f32 2122317824#32 := congrArg (Ideal.ofBits FTy.f32) (by decide +kernel)
  unfold rExp
  rw [← e1, ← e2]
  by_cases h1 : pow 1 ≤ T <;> by_cases h2 : T < pow 253 <;> simp [h1, h2, IntOp.andi, Scalar.select]

theorem two_eq : Ideal.ofBits FTy.f32 1073741824#32 = ((2 : ℝ) : EReal) := by
  have e : Ideal.ofBits FTy.f32 1073741824#32 = pow 128 := congrArg (Ideal.ofBits FTy.f32) (by decide +kernel)
  rw [e, pow_eq 128 (by omega) (by omega)]
  norm_num

/-- The floor of the logarithm, between two powers. -/
theorem floor_log (n : ℕ) (h1 : 1 ≤ n) (h2 : n ≤ 252) (T : EReal) (hl : pow n ≤ T) (hu : T < pow (n + 1)) :
    Ideal.liftRound Int.floor (Ideal.div (Ideal.log T) (Ideal.log (Ideal.ofBits FTy.f32 1073741824#32))) + 1 = (((n : ℝ) - 126 : ℝ) : EReal) := by
  rw [pow_eq n h1 (by omega)] at hl
  rw [pow_eq (n + 1) (by omega) (by omega)] at hu
  induction T with
  | bot => exact absurd hl (not_le.2 (EReal.bot_lt_coe _))
  | top => exact absurd hu (not_lt.2 le_top)
  | coe t =>
    have hl := EReal.coe_le_coe_iff.1 hl
    have hu := EReal.coe_lt_coe_iff.1 hu
    have ht : 0 < t := lt_of_lt_of_le (zpow_pos two_pos _) hl
    have h2l : 0 < Real.log 2 := Real.log_pos one_lt_two
    have a1 : ((n : ℝ) - 127) * Real.log 2 ≤ Real.log t := by
      have := Real.log_le_log (zpow_pos two_pos _) hl
      rw [Real.log_zpow] at this
      push_cast at this
      exact this
    have a2 : Real.log t < ((n : ℝ) - 126) * Real.log 2 := by
      have := Real.log_lt_log ht hu
      rw [Real.log_zpow] at this
      push_cast at this
      linarith
    have hfl : ⌊Real.log t * (Real.log 2)⁻¹⌋ = (n : ℤ) - 127 := by
      rw [← div_eq_mul_inv, Int.floor_eq_iff]
      push_cast
      constructor
      · rw [le_div_iff₀ h2l]; exact a1
      · rw [div_lt_iff₀ h2l]; linarith
    rw [two_eq, Ideal.log_coe, Ideal.log_coe, if_neg (not_le.2 ht), if_neg (by norm_num)]
    unfold Ideal.div
    rw [if_neg (by exact_mod_cast h2l.ne'), ← EReal.coe_inv, ← EReal.coe_mul]
    show ((⌊Real.log t * (Real.log 2)⁻¹⌋ : ℝ) : EReal) + 1 = _
    rw [hfl, ← EReal.coe_one, ← EReal.coe_add]
    congr 1
    push_cast
    ring

/-! ## They agree -/

/-- Of every threshold there is one field that both sides use. -/
theorem exists_field (T : EReal) : ∃ n : ℕ, 1 ≤ n ∧ n ≤ 252 ∧ field T = pat n ∧ rExp T = (((n : ℝ) - 126 : ℝ) : EReal) := by
  rw [guard_eq]
  by_cases h1 : pow 1 ≤ T
  · by_cases h2 : T < pow 253
    · rw [if_pos ⟨h1, h2⟩]
      classical
      have hg : pow (Nat.findGreatest (fun k => pow k ≤ T) 252) ≤ T := Nat.findGreatest_spec (P := fun k => pow k ≤ T) (m := 1) (by omega) h1
      have hle : Nat.findGreatest (fun k => pow k ≤ T) 252 ≤ 252 := Nat.findGreatest_le _
      have hge : 1 ≤ Nat.findGreatest (fun k => pow k ≤ T) 252 := Nat.le_findGreatest (by omega) h1
      have hup : ¬ pow (Nat.findGreatest (fun k => pow k ≤ T) 252 + 1) ≤ T := by
        rcases Nat.lt_or_ge (Nat.findGreatest (fun k => pow k ≤ T) 252) 252 with hb | hb
        · exact Nat.findGreatest_is_greatest (P := fun k => pow k ≤ T) (Nat.lt_succ_self _) hb
        · rw [show Nat.findGreatest (fun k => pow k ≤ T) 252 = 252 by omega]
          exact not_le.2 h2
      generalize Nat.findGreatest (fun k => pow k ≤ T) 252 = n at hg hle hge hup
      refine ⟨n, hge, hle, ?_, floor_log n hge hle T hg (not_le.1 hup)⟩
      have hr : raw T = pat n := (raw_eq T n hge (by omega) hg fun _ => hup).trans (val_lt ⟨n, by omega⟩ (by show n < 253; omega))
      unfold field
      rw [hr, pat_ne ⟨n, by omega⟩ hge hle]
      rfl
    · rw [if_neg (fun h => h2 h.2)]
      refine ⟨126, by omega, by omega, ?_, by norm_num⟩
      have hr : raw T = 2139095040#32 := (raw_eq T 253 (by omega) (by omega) (not_lt.1 h2) (by omega)).trans (val_ge ⟨253, by omega⟩ (by show 253 ≤ 253; omega))
      unfold field
      rw [hr]
      decide +kernel
  · rw [if_neg (fun h => h1 h.1)]
    refine ⟨126, by omega, by omega, ?_, by norm_num⟩
    unfold field
    rw [raw_zero T h1]
    decide +kernel

theorem pat_up : ∀ n : Fin 256, n.val ≤ 252 → IntOp.addi (pat n) 8388608#32 = pat (n + 1) := by decide +kernel
theorem pat_down : ∀ n : Fin 256, n.val ≤ 252 → IntOp.subi 2122317824#32 (pat n) = pat (253 - n) := by decide +kernel

theorem exp2_int (n : ℤ) (x : ℝ) (h : x = n) : Ideal.exp2 (x : EReal) = (((2 : ℝ) ^ n : ℝ) : EReal) := by
  rw [Ideal.exp2_coe, h]
  congr 1
  exact Real.rpow_intCast 2 n

/-- The two scales are one, -/
theorem scale_eq (T : EReal) : kScale T = Ideal.exp2 (rExp T) := by
  obtain ⟨n, h1, h2, hf, hr⟩ := exists_field T
  unfold kScale
  rw [hf, hr, pat_up ⟨n, by omega⟩ h2, exp2_int ((n : ℤ) - 126) _ (by push_cast; ring)]
  refine (pow_eq (n + 1) (by omega) (by omega)).trans ?_
  push_cast
  congr 2
  ring

/-- and so are the two inverses. -/
theorem inv_eq (T : EReal) : kInv T = Ideal.exp2 (0 - rExp T) := by
  obtain ⟨n, h1, h2, hf, hr⟩ := exists_field T
  unfold kInv
  rw [hf, hr, pat_down ⟨n, by omega⟩ h2, ← EReal.coe_zero, ← EReal.coe_sub, exp2_int (126 - (n : ℤ)) _ (by push_cast; ring)]
  refine (pow_eq (253 - n) (by omega) (by omega)).trans ?_
  congr 2
  push_cast [Nat.cast_sub (show n ≤ 253 by omega)]
  ring

end Cert.Quant

end
-- ==== Proof.Spec.lean ====
/-
  What the two programs compute, of the six arrays they are given, over the extended reals: the products with the scales, the gated
  projection, a group's threshold, its codes and its scale.
-/
module

public import proofs.«01_k».proof.Proof.Quant

@[expose] public section

set_option maxRecDepth 16384

noncomputable section

namespace Cert.Spec

open Idealize.ShloMosaic

/-- The six arrays: the activations' codes and scales, the gate's, the up projection's. -/
structure In where
  x : Fin 6144 → Fin 4096 → EReal
  xs : Fin 6144 → Fin 32 → EReal
  g : Fin 7168 → Fin 4096 → EReal
  gs : Fin 56 → Fin 32 → EReal
  u : Fin 7168 → Fin 4096 → EReal
  us : Fin 56 → Fin 32 → EReal

/-- A row of activations against a row of weights. -/
def dot (x : Fin 6144 → Fin 4096 → EReal) (xs : Fin 6144 → Fin 32 → EReal) (w : Fin 7168 → Fin 4096 → EReal) (ws : Fin 56 → Fin 32 → EReal)
    (r : Fin 6144) (f : Fin 7168) : EReal :=
  ∑ k : Fin 4096, x r k * xs r ⟨k.val / 128, by omega⟩ * (w f k * ws ⟨f.val / 128, by omega⟩ ⟨k.val / 128, by omega⟩)

/-- The gated projection. -/
def h (I : In) (r : Fin 6144) (f : Fin 7168) : EReal :=
  dot I.x I.xs I.g I.gs r f * Ideal.logistic (dot I.x I.xs I.g I.gs r f) * dot I.x I.xs I.u I.us r f

/-- A group's threshold: its greatest magnitude over 448. -/
def thr (v : Fin 128 → EReal) : EReal :=
  Finset.fold max (Ideal.ofBits FTy.f32 4286578688#32) (fun l => FloatOps.absf (F := Ideal) (φ := .f32) (v l)) Finset.univ * Ideal.ofBits FTy.f32 991054117#32

/-- The threshold of a row's group. -/
def thrOf (I : In) (r : Fin 6144) (q : Fin 56) : EReal := thr fun l => h I r ⟨q.val * 128 + l.val, by omega⟩

/-- A value times a factor, held to the codes' range. -/
def clamp (v s : EReal) : EReal := min (Ideal.ofBits FTy.f32 1138753536#32) (max (Ideal.ofBits FTy.f32 3286237184#32) (v * s))

/-- A code. -/
def code (I : In) (r : Fin 6144) (f : Fin 7168) : EReal :=
  clamp (h I r f) (Ideal.exp2 (0 - Quant.rExp (thrOf I r ⟨f.val / 128, by omega⟩)))

/-- A scale. -/
def scl (I : In) (r : Fin 6144) (q : Fin 56) : EReal := Ideal.exp2 (Quant.rExp (thrOf I r q))

end Cert.Spec

end
-- ==== Proof.KI.Value.lean ====
/-
  The kernel's results over the extended reals, element by element, in the words of Spec.
-/
module

public import proofs.«01_k».proof.Proof.KI.Arrays
public import proofs.«01_k».proof.Proof.Spec
public import Idealize.ShloMosaic.Lib.Pointwise

@[expose] public section

set_option maxRecDepth 16384

noncomputable section

namespace Cert.KernelIdeal.Run

open Cert.KernelIdeal.Gen
open Idealize.ShloMosaic Idealize.ShloMosaic.TcCoe Idealize.ShloMosaic.Tactic

/-! ## The quantiser of one group -/

theorem field0 (a b : FVec Ideal S1024x256 .f32) (r : Fin 1024) :
    k0_pay216 a b (ix2 r 0) = Quant.field (Spec.thr fun l => k0_pay213 a b (ix2 r ⟨l.val, by omega⟩)) := by
  unfold Quant.field Quant.raw Quant.cand Spec.thr
  pointwise [k0_pay216, k0_pay215]

theorem field1 (h : FVec Ideal S1024x256 .f32) (r : Fin 1024) :
    k0_pay222 h (ix2 r 0) = Quant.field (Spec.thr fun l => h (ix2 r ⟨128 + l.val, by omega⟩)) := by
  unfold Quant.field Quant.raw Quant.cand Spec.thr
  pointwise [k0_pay222, k0_pay221]

theorem codes0 (a b : FVec Ideal S1024x256 .f32) (r : Fin 1024) (l : Fin 128) :
    k0_pay219 (Scalar.ofBits .f32 0x43E00000#32) (k0_pay218 a b) (ix2 r l)
      = Spec.clamp (k0_pay213 a b (ix2 r ⟨l.val, by omega⟩)) (Quant.kInv (Spec.thr fun l => k0_pay213 a b (ix2 r ⟨l.val, by omega⟩))) := by
  unfold Quant.kInv Spec.clamp
  rw [← field0]
  pointwise [k0_pay219, k0_pay218, k0_pay215]

theorem codes1 (h : FVec Ideal S1024x256 .f32) (r : Fin 1024) (l : Fin 128) :
    k0_pay224 (k0_pay221 h) (k0_pay222 h) (ix2 r l)
      = Spec.clamp (h (ix2 r ⟨128 + l.val, by omega⟩)) (Quant.kInv (Spec.thr fun l => h (ix2 r ⟨128 + l.val, by omega⟩))) := by
  unfold Quant.kInv Spec.clamp
  rw [← field1]
  pointwise [k0_pay224, k0_pay221]

theorem scales0 (a b : FVec Ideal S1024x256 .f32) (r : Fin 1024) :
    k0_pay217 a b (ix2 r 0) = Quant.kScale (Spec.thr fun l => k0_pay213 a b (ix2 r ⟨l.val, by omega⟩)) := by
  unfold Quant.kScale
  rw [← field0]
  pointwise [k0_pay217]

theorem scales1 (h : FVec Ideal S1024x256 .f32) (r : Fin 1024) :
    k0_pay223 h (ix2 r 0) = Quant.kScale (Spec.thr fun l => h (ix2 r ⟨128 + l.val, by omega⟩)) := by
  unfold Quant.kScale
  rw [← field1]
  pointwise [k0_pay223]

/-! ## One block's products -/

theorem hOf_apply (a : Vec Ideal S1024x4096 .bf16) (b : Vec Ideal S512x4096 .bf16) (r : Fin 1024) (l : Fin 256) :
    hOf a b (ix2 r l) = (∑ x : Fin 4096, a (ix2 r x) * b (ix2 ⟨l.val, by omega⟩ x)) * Ideal.logistic (∑ x : Fin 4096, a (ix2 r x) * b (ix2 ⟨l.val, by omega⟩ x))
      * ∑ x : Fin 4096, a (ix2 r x) * b (ix2 ⟨256 + l.val, by omega⟩ x) := by
  pointwise [hOf, k0_pay210, k0_pay211, k0_pay212, k0_pay213]

variable (m : (ℓ : Loc nD τ sig) → Buf (Elt Ideal) ℓ) (c : Dev nD)

/-- The arrays the kernel is called with. -/
def inp : Spec.In where
  x r k := V m c main_v0 (ix2 (n0 := 6144) (n1 := 4096) r k)
  xs r k := V m c main_v1 (ix2 (n0 := 6144) (n1 := 32) r k)
  g r k := V m c main_arg2 (ix2 (n0 := 7168) (n1 := 4096) r k)
  gs r k := V m c main_arg3 (ix2 (n0 := 56) (n1 := 32) r k)
  u r k := V m c main_arg4 (ix2 (n0 := 7168) (n1 := 4096) r k)
  us r k := V m c main_arg5 (ix2 (n0 := 56) (n1 := 32) r k)

/-- The row of the whole array a block's row is, and the column. -/
def rowOf (t : Fin cfg0.N) (r : Fin 1024) : Fin 6144 := ⟨1024 * (t.val / 28) + r.val, by have := lt168 t; omega⟩
def colOf (t : Fin cfg0.N) (l : Fin 256) : Fin 7168 := ⟨256 * (t.val % 28) + l.val, by omega⟩

theorem XB_apply (t : Fin cfg0.N) (r : Fin 1024) (k : Fin 4096) :
    XB m c t (ix2 r k) = (inp m c).x (rowOf t r) k * (inp m c).xs (rowOf t r) ⟨k.val / 128, by omega⟩ :=
  congrArg₂ (fun a b : EReal => a * b) (iblk0_apply m c t (ix2 r k)) (iblk1_apply m c t (ix2 r ⟨k.val / 128, by omega⟩))

theorem WB_gate (t : Fin cfg0.N) (l : Fin 256) (k : Fin 4096) :
    WB m c t (ix2 ⟨l.val, by omega⟩ k) = (inp m c).g (colOf t l) k * (inp m c).gs ⟨(colOf t l).val / 128, by omega⟩ ⟨k.val / 128, by omega⟩ := by
  refine (dif_pos (show l.val < 256 from l.isLt)).trans ?_
  refine (congrArg₂ (fun a b : EReal => a * b) (iblk2_apply m c t _) (iblk4_apply m c t _)).trans ?_
  refine congrArg₂ (fun a b : EReal => a * b) rfl (congrArg (fun r => V m c main_arg3 (ix2 (n0 := 56) (n1 := 32) r _)) (Fin.ext ?_))
  show 2 * (grid0.coords t 1).val + l.val / 128 = (256 * (t.val % 28) + l.val) / 128
  rw [coord1]
  omega

theorem WB_up (t : Fin cfg0.N) (l : Fin 256) (k : Fin 4096) :
    WB m c t (ix2 ⟨256 + l.val, by omega⟩ k) = (inp m c).u (colOf t l) k * (inp m c).us ⟨(colOf t l).val / 128, by omega⟩ ⟨k.val / 128, by omega⟩ := by
  refine (dif_neg (show ¬ 256 + l.val < 256 by omega)).trans ?_
  refine (congrArg₂ (fun a b : EReal => a * b) (iblk3_apply m c t _) (iblk5_apply m c t _)).trans ?_
  refine congrArg₂ (fun a b : EReal => a * b) (congrArg (fun r => V m c main_arg4 (ix2 (n0 := 7168) (n1 := 4096) r _)) (Fin.ext ?_))
    (congrArg (fun r => V m c main_arg5 (ix2 (n0 := 56) (n1 := 32) r _)) (Fin.ext ?_))
  · show 256 * (t.val % 28) + (256 + l.val - 256) = 256 * (t.val % 28) + l.val
    omega
  · show 2 * (grid0.coords t 1).val + (256 + l.val - 256) / 128 = (256 * (t.val % 28) + l.val) / 128
    rw [coord1]
    omega

/-- A block's product is the projection at its place. -/
theorem h_apply (t : Fin cfg0.N) (r : Fin 1024) (l : Fin 256) :
    hOf (XB m c t) (WB m c t) (ix2 r l) = Spec.h (inp m c) (rowOf t r) (colOf t l) := by
  rw [hOf_apply]
  have e1 : (∑ x : Fin 4096, XB m c t (ix2 r x) * WB m c t (ix2 ⟨l.val, by omega⟩ x)) = Spec.dot (inp m c).x (inp m c).xs (inp m c).g (inp m c).gs (rowOf t r) (colOf t l) :=
    Finset.sum_congr rfl fun x _ => congrArg₂ (fun a b : EReal => a * b) (XB_apply m c t r x) (WB_gate m c t l x)
  have e2 : (∑ x : Fin 4096, XB m c t (ix2 r x) * WB m c t (ix2 ⟨256 + l.val, by omega⟩ x)) = Spec.dot (inp m c).x (inp m c).xs (inp m c).u (inp m c).us (rowOf t r) (colOf t l) :=
    Finset.sum_congr rfl fun x _ => congrArg₂ (fun a b : EReal => a * b) (XB_apply m c t r x) (WB_up m c t l x)
  rw [e1, e2]
  rfl

/-! ## The results -/

/-- The threshold of a block's group is the row's. -/
theorem thr_apply (t : Fin cfg0.N) (r : Fin 1024) (o : Fin 128 → Fin 256) (Q : Fin 56)
    (hQ : ∀ l : Fin 128, 256 * (t.val % 28) + (o l).val = Q.val * 128 + l.val) :
    (Spec.thr fun l => hOf (XB m c t) (WB m c t) (ix2 r (o l))) = Spec.thrOf (inp m c) (rowOf t r) Q :=
  congrArg Spec.thr (funext fun l => (h_apply m c t r (o l)).trans (congrArg (Spec.h (inp m c) (rowOf t r)) (Fin.ext (hQ l))))

/-- The codes of a grid point. -/
theorem codes_apply (t : Fin cfg0.N) (r : Fin 1024) (l : Fin 256) :
    codesAt m c t (ix2 r l) = Spec.code (inp m c) (rowOf t r) (colOf t l) := by
  have ht := lt168 t
  by_cases hlt : l.val < 128
  · refine (dif_pos hlt).trans ((codes0 _ _ r ⟨l.val, hlt⟩).trans ?_)
    refine congrArg₂ Spec.clamp (h_apply m c t r l) ((congrArg Quant.kInv ?_).trans (Quant.inv_eq _))
    exact thr_apply m c t r (fun l => ⟨l.val, by omega⟩) ⟨(colOf t l).val / 128, by omega⟩ fun k => by
      show 256 * (t.val % 28) + k.val = (256 * (t.val % 28) + l.val) / 128 * 128 + k.val
      omega
  · refine (dif_neg hlt).trans ((codes1 _ r ⟨l.val - 128, by omega⟩).trans ?_)
    refine congrArg₂ Spec.clamp ((congrArg (fun z => hOf (XB m c t) (WB m c t) (ix2 r z)) (Fin.ext (show 128 + (l.val - 128) = l.val by omega))).trans (h_apply m c t r l))
      ((congrArg Quant.kInv ?_).trans (Quant.inv_eq _))
    exact thr_apply m c t r (fun l => ⟨128 + l.val, by omega⟩) ⟨(colOf t l).val / 128, by omega⟩ fun k => by
      show 256 * (t.val % 28) + (128 + k.val) = (256 * (t.val % 28) + l.val) / 128 * 128 + k.val
      omega

/-- The scales of a grid point's two groups. -/
theorem scl_apply0 (t : Fin cfg0.N) (r : Fin 1024) :
    sclAt0 m c t (ix2 r 0) = Spec.scl (inp m c) (rowOf t r) ⟨2 * (t.val % 28), by omega⟩ := by
  refine (scales0 _ _ r).trans ((congrArg Quant.kScale ?_).trans (Quant.scale_eq _))
  exact thr_apply m c t r (fun l => ⟨l.val, by omega⟩) ⟨2 * (t.val % 28), by omega⟩ fun k => by
    show 256 * (t.val % 28) + k.val = 2 * (t.val % 28) * 128 + k.val
    omega

theorem scl_apply1 (t : Fin cfg0.N) (r : Fin 1024) :
    sclAt1 m c t (ix2 r 0) = Spec.scl (inp m c) (rowOf t r) ⟨2 * (t.val % 28) + 1, by omega⟩ := by
  refine (scales1 _ r).trans ((congrArg Quant.kScale ?_).trans (Quant.scale_eq _))
  exact thr_apply m c t r (fun l => ⟨128 + l.val, by omega⟩) ⟨2 * (t.val % 28) + 1, by omega⟩ fun k => by
    show 256 * (t.val % 28) + (128 + k.val) = (2 * (t.val % 28) + 1) * 128 + k.val
    omega

/-! ## The arrays -/

theorem row_pt (r : Fin 6144) (j : ℕ) (hj : j < 28) :
    rowOf (ptOf (r.val / 1024) j (by omega) hj) ⟨r.val % 1024, by omega⟩ = r := by
  apply Fin.ext
  show 1024 * ((28 * (r.val / 1024) + j) / 28) + r.val % 1024 = r.val
  omega

theorem col_pt (i : ℕ) (f : Fin 7168) (hi : i < 6) :
    colOf (ptOf i (f.val / 256) hi (by omega)) ⟨f.val % 256, by omega⟩ = f := by
  apply Fin.ext
  show 256 * ((28 * i + f.val / 256) % 28) + f.val % 256 = f.val
  omega

theorem codesArr_apply (r : Fin 6144) (f : Fin 7168) : codesArr m c (ix2 r f) = Spec.code (inp m c) r f :=
  (codes_apply m c (ptOf (r.val / 1024) (f.val / 256) (by omega) (by omega)) ⟨r.val % 1024, by omega⟩ ⟨f.val % 256, by omega⟩).trans
    (congrArg₂ (Spec.code (inp m c)) (row_pt r _ (by omega)) (col_pt _ f (by omega)))

theorem sclArr_apply (r : Fin 6144) (q : Fin 56) : sclArr m c (ix2 r q) = Spec.scl (inp m c) r q := by
  by_cases he : q.val % 2 = 0
  · refine (if_pos he).trans ((scl_apply0 m c (ptOf (r.val / 1024) (q.val / 2) (by omega) (by omega)) ⟨r.val % 1024, by omega⟩).trans ?_)
    refine congrArg₂ (Spec.scl (inp m c)) (row_pt r _ (by omega)) (Fin.ext ?_)
    show 2 * ((28 * (r.val / 1024) + q.val / 2) % 28) = q.val
    omega
  · refine (if_neg he).trans ((scl_apply1 m c (ptOf (r.val / 1024) (q.val / 2) (by omega) (by omega)) ⟨r.val % 1024, by omega⟩).trans ?_)
    refine congrArg₂ (Spec.scl (inp m c)) (row_pt r _ (by omega)) (Fin.ext ?_)
    show 2 * ((28 * (r.val / 1024) + q.val / 2) % 28) + 1 = q.val
    omega

end Cert.KernelIdeal.Run

end
-- ==== Proof.RI.Pay.lean ====
/-
  The reference's quantiser over the extended reals, element by element: thresholds, exponents, scales and codes of any products.
-/
module

public import proofs.«01_k».proof.Proof.Gen.ReferenceIdeal.Frame
public import proofs.«01_k».proof.Proof.Gen.ReferenceIdeal.Skeleton
public import proofs.«01_k».proof.Proof.Spec
public import Idealize.ShloMosaic.Lib.Pipeline.Value
public import Idealize.ShloMosaic.Lib.Pipeline.ValueKit
public import Idealize.ShloMosaic.Lib.Pointwise

@[expose] public section

set_option maxRecDepth 16384

noncomputable section

namespace Cert.ReferenceIdeal.Run

open Cert.ReferenceIdeal Cert.ReferenceIdeal.Gen
open Idealize.ShloMosaic Idealize.ShloMosaic.TcCoe Idealize.ShloMosaic.Tactic Idealize.SL.Sem
open Idealize.ShloMosaic.Pipeline (Dat)

/-! ## The payloads, each of the values it is computed from -/

/-- A row's thresholds from its groups. -/
def thrV (h : FVec Ideal S6144x56x128 .f32) : FVec Ideal S6144x56 .f32 :=
  mulf (multiReduction .maximumf [2] S6144x56 (absf h) 0xFF800000#32 reduces_S6144x56x128_S6144x56 (.inl rfl) rfl)
    (broadcast S6144x56 (Scalar.ofBits (F := Ideal) .f32 0x3B124925#32))

/-- Whether a threshold is a normal number at least. -/
def geV (a : FVec Ideal S6144x56 .f32) : IVec S6144x56 1 := cmpf .oge a (broadcast S6144x56 (Scalar.ofBits (F := Ideal) .f32 0x00800000#32))

/-- A greatest magnitude over the last of three axes, of any sizes. -/
theorem max_read {n0 n1 n2 : Nat} (h : FVec Ideal (⟨3, ![n0, n1, n2]⟩ : Shape) .f32) (acc : BitVec 32)
    (hr : (⟨3, ![n0, n1, n2]⟩ : Shape).Reduces [2] (⟨2, ![n0, n1]⟩ : Shape)) (hf : FKind.Formats .f32)
    (ha : acc = FKind.maximumf.neutral .f32 hf) (r : Fin n0) (q : Fin n1) :
    multiReduction .maximumf [2] (⟨2, ![n0, n1]⟩ : Shape) (absf h) acc hr hf ha (ix2 r q)
      = Finset.fold max (Ideal.ofBits FTy.f32 acc) (fun l => FloatOps.absf (F := Ideal) (φ := .f32) (h (ix3 r q l))) Finset.univ :=
  (multiReduction_maximumf_eq_fold _ _ hr hf ha _).trans (Shape.Reduces.fold_fiber_r3_a2 hr _ _ _ _)

/-- Every element times one constant. -/
theorem mul_const {s : Shape} (a : FVec Ideal s .f32) (w : BitVec 32) (i : s.Idx) :
    mulf a (broadcast s (Scalar.ofBits (F := Ideal) .f32 w)) i = a i * Ideal.ofBits FTy.f32 w := rfl

theorem thrV_apply (h : FVec Ideal S6144x56x128 .f32) (r : Fin 6144) (q : Fin 56) :
    thrV h (ix2 r q) = Spec.thr fun l => h (ix3 r q l) := by
  unfold thrV Spec.thr
  rw [mul_const, max_read h 0xFF800000#32 reduces_S6144x56x128_S6144x56 (.inl rfl) rfl r q]

theorem exp_apply (a : FVec Ideal S6144x56 .f32) (r : Fin 6144) (q : Fin 56) :
    k0_pay1 a (geV a) k0_pay7 (ix2 r q) = Quant.rExp (a (ix2 r q)) := by
  unfold Quant.rExp
  pointwise [k0_pay1, geV, k0_pay7]

theorem exp2_def (x : EReal) : FloatOps.exp2 (F := Ideal) (φ := .f32) x = Ideal.exp2 x := rfl

theorem scl_read (a : FVec Ideal S6144x56 .f32) (b : IVec S6144x56 1) (d : FVec Ideal S6144x56 .f32) (r : Fin 6144) (q : Fin 56) :
    k0_pay2 a b d (ix2 r q) = FloatOps.exp2 (F := Ideal) (φ := .f32) (k0_pay1 a b d (ix2 r q)) := by
  pointwise [k0_pay2]

theorem scl_apply (a : FVec Ideal S6144x56 .f32) (r : Fin 6144) (q : Fin 56) :
    k0_pay2 a (geV a) k0_pay7 (ix2 r q) = Ideal.exp2 (Quant.rExp (a (ix2 r q))) := by
  rw [scl_read, exp_apply, exp2_def]

theorem codes_read (h : FVec Ideal S6144x56x128 .f32) (a : FVec Ideal S6144x56 .f32) (b : IVec S6144x56 1) (d : FVec Ideal S6144x56 .f32) (r : Fin 6144) (f : Fin 7168) :
    k0_pay3 h a b d (ix2 r f) = Spec.clamp (h (ix3 r ⟨f.val / 128, by omega⟩ ⟨f.val % 128, by omega⟩))
      (Ideal.exp2 (0 - k0_pay1 a b d (ix2 r ⟨f.val / 128, by omega⟩))) := by
  rw [← exp2_def]
  unfold Spec.clamp
  pointwise [k0_pay3]

end Cert.ReferenceIdeal.Run

end
-- ==== Proof.RI.Prod.lean ====
/-
  The reference's products over the extended reals, element by element, in the words of Spec.
-/
module

public import proofs.«01_k».proof.Proof.Gen.ReferenceIdeal.Frame
public import proofs.«01_k».proof.Proof.Gen.ReferenceIdeal.Skeleton
public import proofs.«01_k».proof.Proof.Spec
public import Idealize.ShloMosaic.Lib.Pipeline.Value
public import Idealize.ShloMosaic.Lib.Pipeline.ValueKit
public import Idealize.ShloMosaic.Lib.Pointwise

@[expose] public section

set_option maxRecDepth 16384

noncomputable section

namespace Cert.ReferenceIdeal.Run

open Cert.ReferenceIdeal Cert.ReferenceIdeal.Gen
open Idealize.ShloMosaic Idealize.ShloMosaic.TcCoe Idealize.ShloMosaic.Tactic Idealize.SL.Sem
open Idealize.ShloMosaic.Pipeline (Dat)

section Arrays
variable (x0 : Vec Ideal S6144x4096 .fp8e4m3) (x1 : Vec Ideal S6144x32 .f32) (x2 : Vec Ideal S7168x4096 .fp8e4m3) (x3 : Vec Ideal S56x32 .f32) (x4 : Vec Ideal S7168x4096 .fp8e4m3) (x5 : Vec Ideal S56x32 .f32)

/-- The arrays the reference is called with. -/
def inpOf : Spec.In where
  x r k := x0 (ix2 r k)
  xs r k := x1 (ix2 r k)
  g r k := x2 (ix2 r k)
  gs r k := x3 (ix2 r k)
  u r k := x4 (ix2 r k)
  us r k := x5 (ix2 r k)

theorem h_read (r : Fin 6144) (q : Fin 56) (l : Fin 128) :
    k0_pay4 x0 x1 x2 x3 x4 x5 (ix3 r q l) = Spec.h (inpOf x0 x1 x2 x3 x4 x5) r ⟨q.val * 128 + l.val, by omega⟩ := by
  have e : ∀ (w : Vec Ideal S7168x4096 .fp8e4m3) (s : Vec Ideal S56x32 .f32),
      Spec.dot (fun r k => x0 (ix2 r k)) (fun r k => x1 (ix2 r k)) (fun r k => w (ix2 r k)) (fun r k => s (ix2 r k)) r ⟨q.val * 128 + l.val, by omega⟩
        = ∑ x : Fin 4096, x0 (ix2 r x) * x1 (ix2 r ⟨x.val / 128, by omega⟩) * (w (ix2 ⟨q.val * 128 + l.val, by omega⟩ x) * s (ix2 q ⟨x.val / 128, by omega⟩)) := by
    intro w s
    have eq : (⟨(q.val * 128 + l.val) / 128, by omega⟩ : Fin 56) = q := Fin.ext (by show (q.val * 128 + l.val) / 128 = q.val; omega)
    unfold Spec.dot
    simp only [eq]
  unfold Spec.h inpOf
  simp only [e]
  pointwise [k0_pay4]

end Arrays

end Cert.ReferenceIdeal.Run

end
-- ==== Proof.RI.Value.lean ====
/-
  The reference's two results over the extended reals, element by element, in the words of Spec.
-/
module

public import proofs.«01_k».proof.Proof.Gen.ReferenceIdeal.Frame
public import proofs.«01_k».proof.Proof.Gen.ReferenceIdeal.Skeleton
public import proofs.«01_k».proof.Proof.RI.Pay
public import proofs.«01_k».proof.Proof.RI.Prod
public import Idealize.ShloMosaic.Lib.Pipeline.Value
public import Idealize.ShloMosaic.Lib.Pipeline.ValueKit
public import Idealize.ShloMosaic.Lib.Pointwise

@[expose] public section

set_option maxRecDepth 16384

noncomputable section

namespace Cert.ReferenceIdeal.Run

open Cert.ReferenceIdeal Cert.ReferenceIdeal.Gen
open Idealize.ShloMosaic Idealize.ShloMosaic.TcCoe Idealize.ShloMosaic.Tactic Idealize.SL.Sem
open Idealize.ShloMosaic.Pipeline (Dat)

section Arrays
variable (x0 : Vec Ideal S6144x4096 .fp8e4m3) (x1 : Vec Ideal S6144x32 .f32) (x2 : Vec Ideal S7168x4096 .fp8e4m3) (x3 : Vec Ideal S56x32 .f32) (x4 : Vec Ideal S7168x4096 .fp8e4m3) (x5 : Vec Ideal S56x32 .f32)

theorem pay5_eq : k0_pay5 x0 x1 x2 x3 x4 x5 = thrV (k0_pay4 x0 x1 x2 x3 x4 x5) := rfl
theorem pay6_eq : k0_pay6 x0 x1 x2 x3 x4 x5 = geV (k0_pay5 x0 x1 x2 x3 x4 x5) := rfl

theorem thr_read (r : Fin 6144) (q : Fin 56) : k0_pay5 x0 x1 x2 x3 x4 x5 (ix2 r q) = Spec.thrOf (inpOf x0 x1 x2 x3 x4 x5) r q := by
  rw [pay5_eq, thrV_apply]
  exact congrArg Spec.thr (funext fun l => h_read x0 x1 x2 x3 x4 x5 r q l)

theorem out6_apply (r : Fin 6144) (f : Fin 7168) : out0_6 x0 x1 x2 x3 x4 x5 (ix2 r f) = Spec.code (inpOf x0 x1 x2 x3 x4 x5) r f := by
  unfold out0_6 k0_pay10 k0_pay9 k0_pay8
  have hz : (![0, 0] : Fin 2 → ℕ) = fun _ => 0 := by funext a; fin_cases a <;> rfl
  rw [View.canon_unit_zero hz, View.ld_unit_zero hz, View.ld_unit_zero hz, View.ld_unit_zero hz, View.ld_unit_zero hz, View.ld_unit_zero hz, View.ld_unit_zero hz,
    codes_read, pay6_eq, exp_apply, thr_read, h_read]
  unfold Spec.code
  congr 2
  exact Fin.ext (by show f.val / 128 * 128 + f.val % 128 = f.val; omega)

theorem out7_apply (r : Fin 6144) (q : Fin 56) : out0_7 x0 x1 x2 x3 x4 x5 (ix2 r q) = Spec.scl (inpOf x0 x1 x2 x3 x4 x5) r q := by
  unfold out0_7 k0_pay10 k0_pay9 k0_pay8
  have hz : (![0, 0] : Fin 2 → ℕ) = fun _ => 0 := by funext a; fin_cases a <;> rfl
  rw [View.canon_unit_zero hz, View.ld_unit_zero hz, View.ld_unit_zero hz, View.ld_unit_zero hz, View.ld_unit_zero hz, View.ld_unit_zero hz, View.ld_unit_zero hz,
    pay6_eq, scl_apply, thr_read]
  rfl

end Arrays

end Cert.ReferenceIdeal.Run

end
-- ==== Proof.RI.Final.lean ====
/-
  The reference's run over the extended reals: its two results, element by element, and the arguments unchanged.
-/
module

public import proofs.«01_k».proof.Proof.RI.Value
public import Idealize.ShloMosaic.Lib.Claim

@[expose] public section

set_option maxRecDepth 16384

noncomputable section

namespace Cert.ReferenceIdeal.Run

open Cert.ReferenceIdeal Cert.ReferenceIdeal.Gen
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (ρ : Dev nD → PrngReg) (c : Dev nD)

/-- The one grid point. -/
def t0 : Fin cfg0.N := ⟨0, by decide⟩

/-- The arrays the reference is called with. -/
def inp : Spec.In := inpOf (V m c main_v0) (V m c main_v1) (V m c main_arg2) (V m c main_arg3) (V m c main_arg4) (V m c main_arg5)

/-- Every window starts at its array's first element. -/
theorem idx : ∀ t : Fin cfg0.N, win0_0.index t 0 = 0 ∧ win0_0.index t 1 = 0 ∧ win0_1.index t 0 = 0 ∧ win0_1.index t 1 = 0 ∧ win0_2.index t 0 = 0 ∧ win0_2.index t 1 = 0 ∧ win0_3.index t 0 = 0 ∧ win0_3.index t 1 = 0 ∧ win0_4.index t 0 = 0 ∧ win0_4.index t 1 = 0 ∧ win0_5.index t 0 = 0 ∧ win0_5.index t 1 = 0 :=
  (by decide +kernel : ∀ t : Fin grid0.N, win0_0.index t 0 = 0 ∧ win0_0.index t 1 = 0 ∧ win0_1.index t 0 = 0 ∧ win0_1.index t 1 = 0 ∧ win0_2.index t 0 = 0 ∧ win0_2.index t 1 = 0 ∧ win0_3.index t 0 = 0 ∧ win0_3.index t 1 = 0 ∧ win0_4.index t 0 = 0 ∧ win0_4.index t 1 = 0 ∧ win0_5.index t 0 = 0 ∧ win0_5.index t 1 = 0)

theorem blk0 (t : Fin cfg0.N) : iblk m c 0 t = V m c main_v0 := by
  funext y
  blk_ext [iblk, idx t]

theorem blk1 (t : Fin cfg0.N) : iblk m c 1 t = V m c main_v1 := by
  funext y
  blk_ext [iblk, idx t]

theorem blk2 (t : Fin cfg0.N) : iblk m c 2 t = V m c main_arg2 := by
  funext y
  blk_ext [iblk, idx t]

theorem blk3 (t : Fin cfg0.N) : iblk m c 3 t = V m c main_arg3 := by
  funext y
  blk_ext [iblk, idx t]

theorem blk4 (t : Fin cfg0.N) : iblk m c 4 t = V m c main_arg4 := by
  funext y
  blk_ext [iblk, idx t]

theorem blk5 (t : Fin cfg0.N) : iblk m c 5 t = V m c main_arg5 := by
  funext y
  blk_ext [iblk, idx t]

/-- The results, of the arrays. -/
def codesArr : Vec Ideal S6144x7168 .fp8e4m3 := out0_6 (V m c main_v0) (V m c main_v1) (V m c main_arg2) (V m c main_arg3) (V m c main_arg4) (V m c main_arg5)

def sclArr : Vec Ideal S6144x56 .f32 := out0_7 (V m c main_v0) (V m c main_v1) (V m c main_arg2) (V m c main_arg3) (V m c main_arg4) (V m c main_arg5)

theorem codesArr_apply (r : Fin 6144) (f : Fin 7168) : codesArr m c (ix2 r f) = Spec.code (inp m c) r f := out6_apply _ _ _ _ _ _ r f

theorem sclArr_apply (r : Fin 6144) (q : Fin 56) : sclArr m c (ix2 r q) = Spec.scl (inp m c) r q := out7_apply _ _ _ _ _ _ r q

theorem codes_final : (dats m 0 c).arrAt 6 cfg0.N = codesArr m c := by
  refine (dats m 0 c).arrAt_eq_of_after_last 6 t0 (by decide +kernel) _ fun j => ?_
  rw [after0_6, blk0, blk1, blk2, blk3, blk4, blk5]
  blk_simp
  rfl

theorem scl_final : (dats m 0 c).arrAt 7 cfg0.N = sclArr m c := by
  refine (dats m 0 c).arrAt_eq_of_after_last 7 t0 (by decide +kernel) _ fun j => ?_
  rw [after0_7, blk0, blk1, blk2, blk3, blk4, blk5]
  blk_simp
  rfl

/-- What the run leaves: the two results, and the arguments unchanged. -/
theorem run_values : θ_run defs (onTc (τ := τ) (main (F := Ideal))) ⟨m, fun _ => 0, ρ⟩ fun r => ∀ c : Dev nD,
      r.2.mem ((c : Thread nD τ).loc main_v2_0) = codesArr m c
      ∧ r.2.mem ((c : Thread nD τ).loc main_v2_1) = sclArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 6).trans (codes_final m c), ((h c).1 7).trans (scl_final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end Cert.ReferenceIdeal.Run

end
-- ==== Proof.Same.lean ====
/-
  Equal arguments give the two programs equal arrays, so equal results.
-/
module

public import proofs.«01_k».proof.Proof.RI.Final
public import proofs.«01_k».proof.Proof.KI.Value
public import Idealize.ShloMosaic.Lib.Claim

@[expose] public section

noncomputable section

namespace Cert.Same

open Idealize.ShloMosaic Idealize.ShloMosaic.TcCoe

section Kernel
open Cert.KernelIdeal Cert.KernelIdeal.Gen
variable (m : (ℓ : Loc nD τ sig) → Buf (Elt Ideal) ℓ) (c : Dev nD)

theorem k_v0 : V m c main_v0 = shapeCast S6144x4096 (m ((c : Thread nD τ).loc main_arg0)) shapeCasts_S2x3072x4096_S6144x4096 := by
  entry_read
  rfl

theorem k_v1 : V m c main_v1 = shapeCast S6144x32 (m ((c : Thread nD τ).loc main_arg1)) shapeCasts_S2x3072x32_S6144x32 := by
  entry_read
  rfl

end Kernel

section Reference
open Cert.ReferenceIdeal Cert.ReferenceIdeal.Gen
variable (m : (ℓ : Loc nD τ sig) → Buf (Elt Ideal) ℓ) (c : Dev nD)

theorem r_v0 : V m c main_v0 = shapeCast S6144x4096 (m ((c : Thread nD τ).loc main_arg0)) shapeCasts_S2x3072x4096_S6144x4096 := by
  entry_read
  rfl

theorem r_v1 : V m c main_v1 = shapeCast S6144x32 (m ((c : Thread nD τ).loc main_arg1)) shapeCasts_S2x3072x32_S6144x32 := by
  entry_read
  rfl

end Reference

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The two memories hold the same arguments. -/
def Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)

variable {m m' c} (h : Agree m m' c)
include h

theorem v0 : Cert.ReferenceIdeal.Gen.V m' c Cert.ReferenceIdeal.main_v0 = Cert.KernelIdeal.Gen.V m c Cert.KernelIdeal.main_v0 :=
  (r_v0 m' c).trans ((congrArg (fun x => shapeCast Cert.KernelIdeal.S6144x4096 x Cert.KernelIdeal.Gen.shapeCasts_S2x3072x4096_S6144x4096) h.1).trans (k_v0 m c).symm)

theorem v1 : Cert.ReferenceIdeal.Gen.V m' c Cert.ReferenceIdeal.main_v1 = Cert.KernelIdeal.Gen.V m c Cert.KernelIdeal.main_v1 :=
  (r_v1 m' c).trans ((congrArg (fun x => shapeCast Cert.KernelIdeal.S6144x32 x Cert.KernelIdeal.Gen.shapeCasts_S2x3072x32_S6144x32) h.2.1).trans (k_v1 m c).symm)

theorem a2 : Cert.ReferenceIdeal.Gen.V m' c Cert.ReferenceIdeal.main_arg2 = Cert.KernelIdeal.Gen.V m c Cert.KernelIdeal.main_arg2 :=
  (Cert.ReferenceIdeal.Gen.V_main_arg2 m' c).trans (h.2.2.1.trans (Cert.KernelIdeal.Gen.V_main_arg2 m c).symm)

theorem a3 : Cert.ReferenceIdeal.Gen.V m' c Cert.ReferenceIdeal.main_arg3 = Cert.KernelIdeal.Gen.V m c Cert.KernelIdeal.main_arg3 :=
  (Cert.ReferenceIdeal.Gen.V_main_arg3 m' c).trans (h.2.2.2.1.trans (Cert.KernelIdeal.Gen.V_main_arg3 m c).symm)

theorem a4 : Cert.ReferenceIdeal.Gen.V m' c Cert.ReferenceIdeal.main_arg4 = Cert.KernelIdeal.Gen.V m c Cert.KernelIdeal.main_arg4 :=
  (Cert.ReferenceIdeal.Gen.V_main_arg4 m' c).trans (h.2.2.2.2.1.trans (Cert.KernelIdeal.Gen.V_main_arg4 m c).symm)

theorem a5 : Cert.ReferenceIdeal.Gen.V m' c Cert.ReferenceIdeal.main_arg5 = Cert.KernelIdeal.Gen.V m c Cert.KernelIdeal.main_arg5 :=
  (Cert.ReferenceIdeal.Gen.V_main_arg5 m' c).trans (h.2.2.2.2.2.trans (Cert.KernelIdeal.Gen.V_main_arg5 m c).symm)

/-- The two programs are called with the same arrays. -/
theorem inp_eq : Cert.ReferenceIdeal.Run.inp m' c = Cert.KernelIdeal.Run.inp m c := by
  unfold Cert.ReferenceIdeal.Run.inp Cert.KernelIdeal.Run.inp Cert.ReferenceIdeal.Run.inpOf
  rw [Cert.Spec.In.mk.injEq]
  exact ⟨funext fun r => funext fun k => congrFun (v0 h) (ix2 (n0 := 6144) (n1 := 4096) r k),
    funext fun r => funext fun k => congrFun (v1 h) (ix2 (n0 := 6144) (n1 := 32) r k),
    funext fun r => funext fun k => congrFun (a2 h) (ix2 (n0 := 7168) (n1 := 4096) r k),
    funext fun r => funext fun k => congrFun (a3 h) (ix2 (n0 := 56) (n1 := 32) r k),
    funext fun r => funext fun k => congrFun (a4 h) (ix2 (n0 := 7168) (n1 := 4096) r k),
    funext fun r => funext fun k => congrFun (a5 h) (ix2 (n0 := 56) (n1 := 32) r k)⟩

theorem codes : Cert.ReferenceIdeal.Run.codesArr m' c = Cert.KernelIdeal.Run.codesArr m c := by
  funext i
  have e : i = ix2 (n0 := 6144) (n1 := 7168) (i 0) (i 1) := by funext a; fin_cases a <;> rfl
  rw [e]
  exact (Cert.ReferenceIdeal.Run.codesArr_apply m' c _ _).trans ((congrArg (fun I => Cert.Spec.code I (i 0) (i 1)) (inp_eq h)).trans (Cert.KernelIdeal.Run.codesArr_apply m c _ _).symm)

theorem scales : Cert.ReferenceIdeal.Run.sclArr m' c = Cert.KernelIdeal.Run.sclArr m c := by
  funext i
  have e : i = ix2 (n0 := 6144) (n1 := 56) (i 0) (i 1) := by funext a; fin_cases a <;> rfl
  rw [e]
  exact (Cert.ReferenceIdeal.Run.sclArr_apply m' c _ _).trans ((congrArg (fun I => Cert.Spec.scl I (i 0) (i 1)) (inp_eq h)).trans (Cert.KernelIdeal.Run.sclArr_apply m c _ _).symm)

end Cert.Same

end
-- ==== Proof.lean ====
/-
  The proof of the claim: the three programs end with their arguments unchanged and every semaphore at zero, and over the extended
  reals the kernel's two results are the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.K.Final
public import proofs.«01_k».proof.Proof.KI.Final
public import proofs.«01_k».proof.Proof.KI.Value
public import proofs.«01_k».proof.Proof.RI.Final
public import proofs.«01_k».proof.Proof.Same
public import Idealize.ShloMosaic.Adequacy
public import Idealize.ShloMosaic.Init

@[expose] public section

noncomputable section

namespace Cert.Proof

open Idealize.ShloMosaic Idealize.SL.Sem

/-- Over the extended reals the kernel's codes and scales are the reference's. -/
theorem equal : algebraic_KernelIdeal_ReferenceIdeal (hKernelIdeal := Cert.KernelIdeal.Gen.facts) (hReferenceIdeal := Cert.ReferenceIdeal.Gen.facts) :=
  fun m g m' g' _ h => ⟨fun c => Cert.KernelIdeal.Run.codesArr m c, fun c => Cert.KernelIdeal.Run.sclArr m c,
    Cert.KernelIdeal.Run.run_values m g,
    (θ_run Cert.ReferenceIdeal.defs _ _).mono (fun r hr c => ⟨(hr c).1.trans (Cert.Same.codes (h c)), (hr c).2.1.trans (Cert.Same.scales (h c)), (hr c).2.2⟩)
      (Cert.ReferenceIdeal.Run.run_values m' g')⟩

theorem claim : Cert.Claim := ⟨Cert.Kernel.Gen.facts, Cert.KernelIdeal.Gen.facts, Cert.ReferenceIdeal.Gen.facts,
  fun m g _ => Cert.Kernel.Run.frame m g, fun m g _ => Cert.KernelIdeal.Run.frame m g, fun m g _ => Cert.ReferenceIdeal.Gen.frame m g, trivial, equal⟩

end Cert.Proof

end
